-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def preserves_Kernel_KernelIdeal : Prop :=
  IdealRules.named_const.Statement Cert.KernelIdeal.κ "inv_sqrt_key" .f32 0x3DB504F3#32 (((Real.sqrt 128)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x64 : Shape := ⟨2, ![8, 64]⟩
abbrev S8x2048x32 : Shape := ⟨3, ![8, 2048, 32]⟩
abbrev S256x64 : Shape := ⟨2, ![256, 64]⟩
abbrev S256 : Shape := ⟨1, ![256]⟩
abbrev S128x256 : Shape := ⟨2, ![128, 256]⟩
abbrev S128 : Shape := ⟨1, ![128]⟩
abbrev S256x129 : Shape := ⟨2, ![256, 129]⟩
abbrev S128x64 : Shape := ⟨2, ![128, 64]⟩
abbrev S1x128 : Shape := ⟨2, ![1, 128]⟩
abbrev S1 : Shape := ⟨1, ![1]⟩
abbrev S1024x32 : Shape := ⟨2, ![1024, 32]⟩
abbrev S1024 : Shape := ⟨1, ![1024]⟩
abbrev S1024x64 : Shape := ⟨2, ![1024, 64]⟩
abbrev S2048x3072 : Shape := ⟨2, ![2048, 3072]⟩
abbrev S2048 : Shape := ⟨1, ![2048]⟩
abbrev S1024x2048 : Shape := ⟨2, ![1024, 2048]⟩
abbrev S_ : Shape := ⟨0, ![]⟩

class Facts : Prop where
  bcast_S_S8x2048x1024 : S_.BroadcastsInDim S8x2048x1024 (![] : Fin 0 → Fin S8x2048x1024.rank)
  bcast_S_S8x64 : S_.BroadcastsInDim S8x64 (![] : Fin 0 → Fin S8x64.rank)
  bcast_S_S8x2048x32 : S_.BroadcastsInDim S8x2048x32 (![] : Fin 0 → Fin S8x2048x32.rank)
  bcast_S_S1024x32 : S_.BroadcastsInDim S1024x32 (![] : Fin 0 → Fin S1024x32.rank)
  bcast_S_S1024 : S_.BroadcastsInDim S1024 (![] : Fin 0 → Fin S1024.rank)
  bcast_S_S1024x64 : S_.BroadcastsInDim S1024x64 (![] : Fin 0 → Fin S1024x64.rank)
  bcast_S_S2048x3072 : S_.BroadcastsInDim S2048x3072 (![] : Fin 0 → Fin S2048x3072.rank)
  bcast_S_S2048 : S_.BroadcastsInDim S2048 (![] : Fin 0 → Fin S2048.rank)
  bcast_S_S1024x2048 : S_.BroadcastsInDim S1024x2048 (![] : Fin 0 → Fin S1024x2048.rank)

variable [Facts]

def fn_part1 {F : FTy → Type} [FloatOps F] (main_arg21 : FVec F S1024 .f32) (main_arg22 : FVec F S2048x3072 .f32) (main_arg23 : FVec F S2048 .f32) (main_arg24 : FVec F S1024x2048 .f32) (main_arg25 : FVec F S1024 .f32) (main_v2 : IVec S8x2048x1024 1) (main_v5 : IVec S8x64 1) (main_v8 : IVec S8x2048x32 1) (main_v11 : IVec S1024x32 1) (main_v14 : IVec S1024 1) (main_v17 : IVec S1024x64 1) : IVec S8x2048x1024 1 × IVec S8x64 1 × IVec S8x2048x32 1 × IVec S1024x32 1 × IVec S1024 1 × IVec S1024x64 1 × IVec S1024 1 × IVec S2048x3072 1 × IVec S2048 1 × IVec S1024x2048 1 × IVec S1024 1 :=
  let main_v18 : FVec F S1024 .f32 := Host.absf main_arg21
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S2048x3072 .f32 := Host.absf main_arg22
  let main_cst_6 : FVec F S_ .f32 := constant S_ .f32 0x7F800000#32
  let main_v22 : FVec F S2048x3072 .f32 := broadcastInDim S2048x3072 ![] bcast_S_S2048x3072 main_cst_6
  let main_v23 : IVec S2048x3072 1 := cmpf .olt main_v21 main_v22
  let main_v24 : FVec F S2048 .f32 := Host.absf main_arg23
  let main_cst_7 : FVec F S_ .f32 := constant S_ .f32 0x7F800000#32
  let main_v25 : FVec F S2048 .f32 := broadcastInDim S2048 ![] bcast_S_S2048 main_cst_7
  let main_v26 : IVec S2048 1 := cmpf .olt main_v24 main_v25
  let main_v27 : FVec F S1024x2048 .f32 := Host.absf main_arg24
  let main_cst_8 : FVec F S_ .f32 := constant S_ .f32 0x7F800000#32
  let main_v28 : FVec F S1024x2048 .f32 := broadcastInDim S1024x2048 ![] bcast_S_S1024x2048 main_cst_8
  let main_v29 : IVec S1024x2048 1 := cmpf .olt main_v27 main_v28
  let main_v30 : FVec F S1024 .f32 := Host.absf main_arg25
  let main_cst_9 : FVec F S_ .f32 := constant S_ .f32 0x7F800000#32
  let main_v31 : FVec F S1024 .f32 := broadcastInDim S1024 ![] bcast_S_S1024 main_cst_9
  let main_v32 : IVec S1024 1 := cmpf .olt main_v30 main_v31
  (main_v2, main_v5, main_v8, main_v11, main_v14, main_v17, main_v20, main_v23, main_v26, main_v29, main_v32)

def fn {F : FTy → Type} [FloatOps F] (main_arg0 : FVec F S8x2048x1024 .f32) (main_arg1 : FVec F S8x64 .f32) (main_arg2 : FVec F S8x2048x32 .f32) (main_arg3 : FVec F S256x64 .f32) (main_arg4 : FVec F S256x64 .f32) (main_arg5 : FVec F S256 .f32) (main_arg6 : FVec F S128x256 .f32) (main_arg7 : FVec F S128 .f32) (main_arg8 : FVec F S256x129 .f32) (main_arg9 : FVec F S256 .f32) (main_arg10 : FVec F S128x256 .f32) (main_arg11 : FVec F S128 .f32) (main_arg12 : FVec F S128x64 .f32) (main_arg13 : FVec F S128 .f32) (main_arg14 : FVec F S128x256 .f32) (main_arg15 : FVec F S128 .f32) (main_arg16 : FVec F S1x128 .f32) (main_arg17 : FVec F S1 .f32) (main_arg18 : FVec F S1024x32 .f32) (main_arg19 : FVec F S1024 .f32) (main_arg20 : FVec F S1024x64 .f32) (main_arg21 : FVec F S1024 .f32) (main_arg22 : FVec F S2048x3072 .f32) (main_arg23 : FVec F S2048 .f32) (main_arg24 : FVec F S1024x2048 .f32) (main_arg25 : FVec F S1024 .f32) (main_arg26 : FVec F S1024 .f32) (main_arg27 : FVec F S1024 .f32) : IVec S8x2048x1024 1 × IVec S8x64 1 × IVec S8x2048x32 1 × IVec S1024x32 1 × IVec S1024 1 × IVec S1024x64 1 × IVec S1024 1 × IVec S2048x3072 1 × IVec S2048 1 × IVec S1024x2048 1 × IVec S1024 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x64 .f32 := Host.absf main_arg1
  let main_cst_0 : FVec F S_ .f32 := constant S_ .f32 0x7F800000#32
  let main_v4 : FVec F S8x64 .f32 := broadcastInDim S8x64 ![] bcast_S_S8x64 main_cst_0
  let main_v5 : IVec S8x64 1 := cmpf .olt main_v3 main_v4
  let main_v6 : FVec F S8x2048x32 .f32 := Host.absf main_arg2
  let main_cst_1 : FVec F S_ .f32 := constant S_ .f32 0x7F800000#32
  let main_v7 : FVec F S8x2048x32 .f32 := broadcastInDim S8x2048x32 ![] bcast_S_S8x2048x32 main_cst_1
  let main_v8 : IVec S8x2048x32 1 := cmpf .olt main_v6 main_v7
  let main_v9 : FVec F S1024x32 .f32 := Host.absf main_arg18
  let main_cst_2 : FVec F S_ .f32 := constant S_ .f32 0x7F800000#32
  let main_v10 : FVec F S1024x32 .f32 := broadcastInDim S1024x32 ![] bcast_S_S1024x32 main_cst_2
  let main_v11 : IVec S1024x32 1 := cmpf .olt main_v9 main_v10
  let main_v12 : FVec F S1024 .f32 := Host.absf main_arg19
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x64 .f32 := Host.absf main_arg20
  let main_cst_4 : FVec F S_ .f32 := constant S_ .f32 0x7F800000#32
  let main_v16 : FVec F S1024x64 .f32 := broadcastInDim S1024x64 ![] bcast_S_S1024x64 main_cst_4
  let main_v17 : IVec S1024x64 1 := cmpf .olt main_v15 main_v16
  fn_part1 (F := F) main_arg21 main_arg22 main_arg23 main_arg24 main_arg25 main_v2 main_v5 main_v8 main_v11 main_v14 main_v17
-- ==== Kernel.lean ====
abbrev S8x2048x1024 : Shape := ⟨3, ![8, 2048, 1024]⟩
abbrev S8x64 : Shape := ⟨2, ![8, 64]⟩
abbrev S8x2048x32 : Shape := ⟨3, ![8, 2048, 32]⟩
abbrev S256x64 : Shape := ⟨2, ![256, 64]⟩
abbrev S256 : Shape := ⟨1, ![256]⟩
abbrev S128x256 : Shape := ⟨2, ![128, 256]⟩
abbrev S128 : Shape := ⟨1, ![128]⟩
abbrev S256x129 : Shape := ⟨2, ![256, 129]⟩
abbrev S128x64 : Shape := ⟨2, ![128, 64]⟩
abbrev S1x128 : Shape := ⟨2, ![1, 128]⟩
abbrev S1 : Shape := ⟨1, ![1]⟩
abbrev S1024x32 : Shape := ⟨2, ![1024, 32]⟩
abbrev S1024 : Shape := ⟨1, ![1024]⟩
abbrev S1024x64 : Shape := ⟨2, ![1024, 64]⟩
abbrev S2048x3072 : Shape := ⟨2, ![2048, 3072]⟩
abbrev S2048 : Shape := ⟨1, ![2048]⟩
abbrev S1024x2048 : Shape := ⟨2, ![1024, 2048]⟩
abbrev S1x256 : Shape := ⟨2, ![1, 256]⟩
abbrev S256x1 : Shape := ⟨2, ![256, 1]⟩
abbrev S128x128 : Shape := ⟨2, ![128, 128]⟩
abbrev S128x1 : Shape := ⟨2, ![128, 1]⟩
abbrev S1x1 : Shape := ⟨2, ![1, 1]⟩
abbrev S1x1024 : Shape := ⟨2, ![1, 1024]⟩
abbrev S1x2048 : Shape := ⟨2, ![1, 2048]⟩
abbrev S8x128 : Shape := ⟨2, ![8, 128]⟩
abbrev S8x2048 : Shape := ⟨2, ![8, 2048]⟩
abbrev S2048x32 : Shape := ⟨2, ![2048, 32]⟩
abbrev S2048x1024 : Shape := ⟨2, ![2048, 1024]⟩
abbrev S512x3072 : Shape := ⟨2, ![512, 3072]⟩
abbrev S1024x512 : Shape := ⟨2, ![1024, 512]⟩
abbrev S1x512 : Shape := ⟨2, ![1, 512]⟩
abbrev S8x512 : Shape := ⟨2, ![8, 512]⟩
abbrev S512x32 : Shape := ⟨2, ![512, 32]⟩
abbrev S512x1024 : Shape := ⟨2, ![512, 1024]⟩
abbrev S8x256 : Shape := ⟨2, ![8, 256]⟩
abbrev S8x1x64 : Shape := ⟨3, ![8, 1, 64]⟩
abbrev S1x256x64 : Shape := ⟨3, ![1, 256, 64]⟩
abbrev S8x256x64 : Shape := ⟨3, ![8, 256, 64]⟩
abbrev S8x256x1 : Shape := ⟨3, ![8, 256, 1]⟩
abbrev S2048x64 : Shape := ⟨2, ![2048, 64]⟩
abbrev S2048x1 : Shape := ⟨2, ![2048, 1]⟩
abbrev S256x256 : Shape := ⟨2, ![256, 256]⟩
abbrev S1x256x256 : Shape := ⟨3, ![1, 256, 256]⟩
abbrev S8x256x256 : Shape := ⟨3, ![8, 256, 256]⟩
abbrev S2048x256 : Shape := ⟨2, ![2048, 256]⟩
abbrev S2048x128 : Shape := ⟨2, ![2048, 128]⟩
abbrev S8x256x128 : Shape := ⟨3, ![8, 256, 128]⟩
abbrev S8x1x128 : Shape := ⟨3, ![8, 1, 128]⟩
abbrev S8 : Shape := ⟨1, ![8]⟩
abbrev S8x1 : Shape := ⟨2, ![8, 1]⟩
abbrev S256x128 : Shape := ⟨2, ![256, 128]⟩
abbrev S8x1024 : Shape := ⟨2, ![8, 1024]⟩
abbrev S8x1x2048 : Shape := ⟨3, ![8, 1, 2048]⟩
abbrev S1x2048x1024 : Shape := ⟨3, ![1, 2048, 1024]⟩
abbrev S1x2048x32 : Shape := ⟨3, ![1, 2048, 32]⟩
abbrev S1x1x128 : Shape := ⟨3, ![1, 1, 128]⟩
abbrev S1x1x2048 : Shape := ⟨3, ![1, 1, 2048]⟩
abbrev S1x1x1 : Shape := ⟨3, ![1, 1, 1]⟩
abbrev S1x512x1024 : Shape := ⟨3, ![1, 512, 1024]⟩
abbrev S512x2048 : Shape := ⟨2, ![512, 2048]⟩
abbrev S1x512x32 : Shape := ⟨3, ![1, 512, 32]⟩
abbrev S512 : Shape := ⟨1, ![512]⟩
abbrev S512x1 : Shape := ⟨2, ![512, 1]⟩

abbrev nBuf : Space → Nat
  | .hbm => 56
  | .vmem => 54
  | .smem => 0
  | _ => 0

abbrev bufTy : (tb : Table) → Fin (tcTables nBuf tb) → BufTy
  | .hbm, ⟨0, _⟩ => ⟨S8x2048x1024, .f32⟩
  | .hbm, ⟨1, _⟩ => ⟨S8x64, .f32⟩
  | .hbm, ⟨2, _⟩ => ⟨S8x2048x32, .f32⟩
  | .hbm, ⟨3, _⟩ => ⟨S256x64, .f32⟩
  | .hbm, ⟨4, _⟩ => ⟨S256x64, .f32⟩
  | .hbm, ⟨5, _⟩ => ⟨S256, .f32⟩
  | .hbm, ⟨6, _⟩ => ⟨S128x256, .f32⟩
  | .hbm, ⟨7, _⟩ => ⟨S128, .f32⟩
  | .hbm, ⟨8, _⟩ => ⟨S256x129, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S128x64, .f32⟩
  | .hbm, ⟨13, _⟩ => ⟨S128, .f32⟩
  | .hbm, ⟨14, _⟩ => ⟨S128x256, .f32⟩
  | .hbm, ⟨15, _⟩ => ⟨S128, .f32⟩
  | .hbm, ⟨16, _⟩ => ⟨S1x128, .f32⟩
  | .hbm, ⟨17, _⟩ => ⟨S1, .f32⟩
  | .hbm, ⟨18, _⟩ => ⟨S1024x32, .f32⟩
  | .hbm, ⟨19, _⟩ => ⟨S1024, .f32⟩
  | .hbm, ⟨20, _⟩ => ⟨S1024x64, .f32⟩
  | .hbm, ⟨21, _⟩ => ⟨S1024, .f32⟩
  | .hbm, ⟨22, _⟩ => ⟨S2048x3072, .f32⟩
  | .hbm, ⟨23, _⟩ => ⟨S2048, .f32⟩
  | .hbm, ⟨24, _⟩ => ⟨S1024x2048, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1x256, .f32⟩
  | .hbm, ⟨29, _⟩ => ⟨S1x128, .f32⟩
  | .hbm, ⟨30, _⟩ => ⟨S256x64, .f32⟩
  | .hbm, ⟨31, _⟩ => ⟨S256x64, .f32⟩
  | .hbm, ⟨32, _⟩ => ⟨S256x1, .f32⟩
  | .hbm, ⟨33, _⟩ => ⟨S1x256, .f32⟩
  | .hbm, ⟨34, _⟩ => ⟨S1x256, .f32⟩
  | .hbm, ⟨35, _⟩ => ⟨S1x128, .f32⟩
  | .hbm, ⟨36, _⟩ => ⟨S1x128, .f32⟩
  | .hbm, ⟨37, _⟩ => ⟨S128x128, .f32⟩
  | .hbm, ⟨38, _⟩ => ⟨S128x128, .f32⟩
  | .hbm, ⟨39, _⟩ => ⟨S1x128, .f32⟩
  | .hbm, ⟨40, _⟩ => ⟨S128x1, .f32⟩
  | .hbm, ⟨41, _⟩ => ⟨S1x1, .f32⟩
  | .hbm, ⟨42, _⟩ => ⟨S1x1024, .f32⟩
  | .hbm, ⟨43, _⟩ => ⟨S1x1024, .f32⟩
  | .hbm, ⟨44, _⟩ => ⟨S1x2048, .f32⟩
  | .hbm, ⟨45, _⟩ => ⟨S8x128, .f32⟩
  | .hbm, ⟨46, _⟩ => ⟨S8x2048, .f32⟩
  | .hbm, ⟨47, _⟩ => ⟨S2048x32, .bf16⟩
  | .hbm, ⟨48, _⟩ => ⟨S2048x1024, .bf16⟩
  | .hbm, ⟨49, _⟩ => ⟨S1024x2048, .bf16⟩
  | .hbm, ⟨50, _⟩ => ⟨S8x1x128, .f32⟩
  | .hbm, ⟨51, _⟩ => ⟨S8x1x2048, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S8x2048x1024, .f32⟩
  | .local _ .vmem, ⟨0, _⟩ => ⟨S8x64, .f32⟩
  | .local _ .vmem, ⟨1, _⟩ => ⟨S256x64, .f32⟩
  | .local _ .vmem, ⟨2, _⟩ => ⟨S256x64, .f32⟩
  | .local _ .vmem, ⟨3, _⟩ => ⟨S1x256, .f32⟩
  | .local _ .vmem, ⟨4, _⟩ => ⟨S128x256, .f32⟩
  | .local _ .vmem, ⟨5, _⟩ => ⟨S1x128, .f32⟩
  | .local _ .vmem, ⟨6, _⟩ => ⟨S256x64, .f32⟩
  | .local _ .vmem, ⟨7, _⟩ => ⟨S256x64, .f32⟩
  | .local _ .vmem, ⟨8, _⟩ => ⟨S1x256, .f32⟩
  | .local _ .vmem, ⟨9, _⟩ => ⟨S1x256, .f32⟩
  | .local _ .vmem, ⟨10, _⟩ => ⟨S128x256, .f32⟩
  | .local _ .vmem, ⟨11, _⟩ => ⟨S1x128, .f32⟩
  | .local _ .vmem, ⟨12, _⟩ => ⟨S128x64, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S128x1, .f32⟩
  | .local _ .vmem, ⟨18, _⟩ => ⟨S1x1, .f32⟩
  | .local _ .vmem, ⟨19, _⟩ => ⟨S1024x64, .f32⟩
  | .local _ .vmem, ⟨20, _⟩ => ⟨S1x1024, .f32⟩
  | .local _ .vmem, ⟨21, _⟩ => ⟨S512x3072, .f32⟩
  | .local _ .vmem, ⟨22, _⟩ => ⟨S512x3072, .f32⟩
  | .local _ .vmem, ⟨23, _⟩ => ⟨S1024x512, .f32⟩
  | .local _ .vmem, ⟨24, _⟩ => ⟨S1024x512, .f32⟩
  | .local _ .vmem, ⟨25, _⟩ => ⟨S1024x32, .f32⟩
  | .local _ .vmem, ⟨26, _⟩ => ⟨S1x1024, .f32⟩
  | .local _ .vmem, ⟨27, _⟩ => ⟨S1x512, .f32⟩
  | .local _ .vmem, ⟨28, _⟩ => ⟨S1x512, .f32⟩
  | .local _ .vmem, ⟨29, _⟩ => ⟨S8x128, .f32⟩
  | .local _ .vmem, ⟨30, _⟩ => ⟨S8x512, .f32⟩
  | .local _ .vmem, ⟨31, _⟩ => ⟨S8x512, .f32⟩
  | .local _ .vmem, ⟨32, _⟩ => ⟨S512x32, .bf16⟩
  | .local _ .vmem, ⟨33, _⟩ => ⟨S512x32, .bf16⟩
  | .local _ .vmem, ⟨34, _⟩ => ⟨S512x1024, .bf16⟩
  | .local _ .vmem, ⟨35, _⟩ => ⟨S512x1024, .bf16⟩
  | .local _ .vmem, ⟨36, _⟩ => ⟨S1024x512, .bf16⟩
  | .local _ .vmem, ⟨37, _⟩ => ⟨S1024x512, .bf16⟩
  | .local _ .vmem, ⟨38, _⟩ => ⟨S1x2048x1024, .f32⟩
  | .local _ .vmem, ⟨39, _⟩ => ⟨S1x2048x1024, .f32⟩
  | .local _ .vmem, ⟨40, _⟩ => ⟨S1x2048x32, .f32⟩
  | .local _ .vmem, ⟨41, _⟩ => ⟨S1x2048x32, .f32⟩
  | .local _ .vmem, ⟨42, _⟩ => ⟨S1x1x128, .f32⟩
  | .local _ .vmem, ⟨43, _⟩ => ⟨S1x1x128, .f32⟩
  | .local _ .vmem, ⟨44, _⟩ => ⟨S1x1x2048, .f32⟩
  | .local _ .vmem, ⟨45, _⟩ => ⟨S1x1x2048, .f32⟩
  | .local _ .vmem, ⟨46, _⟩ => ⟨S2048x1024, .bf16⟩
  | .local _ .vmem, ⟨47, _⟩ => ⟨S2048x32, .bf16⟩
  | .local _ .vmem, ⟨48, _⟩ => ⟨S1024x2048, .bf16⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x2048x1024, .f32⟩
  | .local _ .vmem, ⟨53, _⟩ => ⟨S1x2048x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17_0 : Ref sig .tc := ⟨.hbm, 45, rfl⟩
abbrev main_v17_1 : Ref sig .tc := ⟨.hbm, 46, rfl⟩
abbrev main_v17_2 : Ref sig .tc := ⟨.hbm, 47, rfl⟩
abbrev main_v17_3 : Ref sig .tc := ⟨.hbm, 48, rfl⟩
abbrev main_v17_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg21_1 : Ref sig .tc := ⟨.vmem, 22, rfl⟩
abbrev cc0_stg22_0 : Ref sig .tc := ⟨.vmem, 23, rfl⟩
abbrev cc0_stg22_1 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg25_1 : Ref sig .tc := ⟨.vmem, 28, rfl⟩
abbrev cc0_stg26_0 : Ref sig .tc := ⟨.vmem, 29, rfl⟩
abbrev cc0_stg27_0 : Ref sig .tc := ⟨.vmem, 30, rfl⟩
abbrev cc0_stg27_1 : Ref sig .tc := ⟨.vmem, 31, rfl⟩
abbrev cc0_stg28_0 : Ref sig .tc := ⟨.vmem, 32, rfl⟩
abbrev cc0_stg28_1 : Ref sig .tc := ⟨.vmem, 33, rfl⟩
abbrev cc0_stg29_0 : Ref sig .tc := ⟨.vmem, 34, rfl⟩
abbrev cc0_stg29_1 : Ref sig .tc := ⟨.vmem, 35, rfl⟩
abbrev cc0_stg30_0 : Ref sig .tc := ⟨.vmem, 36, rfl⟩
abbrev cc0_stg30_1 : Ref sig .tc := ⟨.vmem, 37, rfl⟩
abbrev cc1_stg0_0 : Ref sig .tc := ⟨.vmem, 38, rfl⟩
abbrev cc1_stg0_1 : Ref sig .tc := ⟨.vmem, 39, rfl⟩
abbrev cc1_stg1_0 : Ref sig .tc := ⟨.vmem, 40, rfl⟩
abbrev cc1_stg1_1 : Ref sig .tc := ⟨.vmem, 41, rfl⟩
abbrev cc1_stg2_0 : Ref sig .tc := ⟨.vmem, 42, rfl⟩
abbrev cc1_stg2_1 : Ref sig .tc := ⟨.vmem, 43, rfl⟩
abbrev cc1_stg3_0 : Ref sig .tc := ⟨.vmem, 44, rfl⟩
abbrev cc1_stg3_1 : Ref sig .tc := ⟨.vmem, 45, rfl⟩
abbrev cc1_stg4_0 : Ref sig .tc := ⟨.vmem, 46, rfl⟩
abbrev cc1_stg5_0 : Ref sig .tc := ⟨.vmem, 47, rfl⟩
abbrev cc1_stg6_0 : Ref sig .tc := ⟨.vmem, 48, rfl⟩
abbrev cc1_stg7_0 : Ref sig .tc := ⟨.vmem, 49, rfl⟩
abbrev cc1_stg8_0 : Ref sig .tc := ⟨.vmem, 50, rfl⟩
abbrev cc1_stg9_0 : Ref sig .tc := ⟨.vmem, 51, rfl⟩
abbrev cc1_stg10_0 : Ref sig .tc := ⟨.vmem, 52, rfl⟩
abbrev cc1_stg10_1 : Ref sig .tc := ⟨.vmem, 53, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem21_1 : DmaSem sig := 22
abbrev cc0_sem22_0 : DmaSem sig := 23
abbrev cc0_sem22_1 : DmaSem sig := 24
abbrev cc0_sem23_0 : DmaSem sig := 25
abbrev cc0_sem24_0 : DmaSem sig := 26
abbrev cc0_sem25_0 : DmaSem sig := 27
abbrev cc0_sem25_1 : DmaSem sig := 28
abbrev cc0_sem26_0 : DmaSem sig := 29
abbrev cc0_sem27_0 : DmaSem sig := 30
abbrev cc0_sem27_1 : DmaSem sig := 31
abbrev cc0_sem28_0 : DmaSem sig := 32
abbrev cc0_sem28_1 : DmaSem sig := 33
abbrev cc0_sem29_0 : DmaSem sig := 34
abbrev cc0_sem29_1 : DmaSem sig := 35
abbrev cc0_sem30_0 : DmaSem sig := 36
abbrev cc0_sem30_1 : DmaSem sig := 37
abbrev cc1_sem0_0 : DmaSem sig := 38
abbrev cc1_sem0_1 : DmaSem sig := 39
abbrev cc1_sem1_0 : DmaSem sig := 40
abbrev cc1_sem1_1 : DmaSem sig := 41
abbrev cc1_sem2_0 : DmaSem sig := 42
abbrev cc1_sem2_1 : DmaSem sig := 43
abbrev cc1_sem3_0 : DmaSem sig := 44
abbrev cc1_sem3_1 : DmaSem sig := 45
abbrev cc1_sem4_0 : DmaSem sig := 46
abbrev cc1_sem5_0 : DmaSem sig := 47
abbrev cc1_sem6_0 : DmaSem sig := 48
abbrev cc1_sem7_0 : DmaSem sig := 49
abbrev cc1_sem8_0 : DmaSem sig := 50
abbrev cc1_sem9_0 : DmaSem sig := 51
abbrev cc1_sem10_0 : DmaSem sig := 52
abbrev cc1_sem10_1 : DmaSem sig := 53

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x3072 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S1024x32 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S8x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x32 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1024x512 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev grid1 : Pipeline.Grid := ⟨2, ![8, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2048x32 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1024x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x2048x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== KernelIdeal.lean ====
variable {F : FTy → Type} [FloatOps F] [Named F]
def κ : String → Option EReal := fun
  | "inv_sqrt_key" => some (((Real.sqrt 128)⁻¹ : ℝ) : EReal)
  | _ => none
-- ==== ReferenceIdeal.lean ====
abbrev S8x2048x1024 : Shape := ⟨3, ![8, 2048, 1024]⟩
abbrev S8x64 : Shape := ⟨2, ![8, 64]⟩
abbrev S8x2048x32 : Shape := ⟨3, ![8, 2048, 32]⟩
abbrev S256x64 : Shape := ⟨2, ![256, 64]⟩
abbrev S256 : Shape := ⟨1, ![256]⟩
abbrev S128x256 : Shape := ⟨2, ![128, 256]⟩
abbrev S128 : Shape := ⟨1, ![128]⟩
abbrev S256x129 : Shape := ⟨2, ![256, 129]⟩
abbrev S128x64 : Shape := ⟨2, ![128, 64]⟩
abbrev S1x128 : Shape := ⟨2, ![1, 128]⟩
abbrev S1 : Shape := ⟨1, ![1]⟩
abbrev S1024x32 : Shape := ⟨2, ![1024, 32]⟩
abbrev S1024 : Shape := ⟨1, ![1024]⟩
abbrev S1024x64 : Shape := ⟨2, ![1024, 64]⟩
abbrev S2048x3072 : Shape := ⟨2, ![2048, 3072]⟩
abbrev S2048 : Shape := ⟨1, ![2048]⟩
abbrev S1024x2048 : Shape := ⟨2, ![1024, 2048]⟩
abbrev S64x256 : Shape := ⟨2, ![64, 256]⟩
abbrev S8x256 : Shape := ⟨2, ![8, 256]⟩
abbrev S1x256 : Shape := ⟨2, ![1, 256]⟩
abbrev S_ : Shape := ⟨0, ![]⟩
abbrev S256x128 : Shape := ⟨2, ![256, 128]⟩
abbrev S8x128 : Shape := ⟨2, ![8, 128]⟩
abbrev S8x1x64 : Shape := ⟨3, ![8, 1, 64]⟩
abbrev S1x256x64 : Shape := ⟨3, ![1, 256, 64]⟩
abbrev S8x256x64 : Shape := ⟨3, ![8, 256, 64]⟩
abbrev S8x256x1 : Shape := ⟨3, ![8, 256, 1]⟩
abbrev S8x256x129 : Shape := ⟨3, ![8, 256, 129]⟩
abbrev S129x256 : Shape := ⟨2, ![129, 256]⟩
abbrev S8x256x256 : Shape := ⟨3, ![8, 256, 256]⟩
abbrev S1x1x256 : Shape := ⟨3, ![1, 1, 256]⟩
abbrev S8x256x128 : Shape := ⟨3, ![8, 256, 128]⟩
abbrev S1x1x128 : Shape := ⟨3, ![1, 1, 128]⟩
abbrev S8 : Shape := ⟨1, ![8]⟩
abbrev S8x1 : Shape := ⟨2, ![8, 1]⟩
abbrev S64x128 : Shape := ⟨2, ![64, 128]⟩
abbrev S128x1 : Shape := ⟨2, ![128, 1]⟩
abbrev S1x1 : Shape := ⟨2, ![1, 1]⟩
abbrev S8x1x1 : Shape := ⟨3, ![8, 1, 1]⟩
abbrev S32x1024 : Shape := ⟨2, ![32, 1024]⟩
abbrev S1x1x1024 : Shape := ⟨3, ![1, 1, 1024]⟩
abbrev S64x1024 : Shape := ⟨2, ![64, 1024]⟩
abbrev S8x1024 : Shape := ⟨2, ![8, 1024]⟩
abbrev S1x1024 : Shape := ⟨2, ![1, 1024]⟩
abbrev S8x1x1024 : Shape := ⟨3, ![8, 1, 1024]⟩
abbrev S8x2048x3072 : Shape := ⟨3, ![8, 2048, 3072]⟩
abbrev S3072x2048 : Shape := ⟨2, ![3072, 2048]⟩
abbrev S8x2048x2048 : Shape := ⟨3, ![8, 2048, 2048]⟩
abbrev S1x1x2048 : Shape := ⟨3, ![1, 1, 2048]⟩
abbrev S2048x1024 : Shape := ⟨2, ![2048, 1024]⟩
abbrev S8x2048 : Shape := ⟨2, ![8, 2048]⟩
abbrev S8x2048x1 : Shape := ⟨3, ![8, 2048, 1]⟩

abbrev nBuf : Space → Nat
  | .hbm => 212
  | .vmem => 0
  | .smem => 0
  | _ => 0

abbrev hbmTy0_0 (i : Nat) : BufTy := match i % 128 with
  | 0 => ⟨S8x2048x1024, .f32⟩
  | 1 => ⟨S8x64, .f32⟩
  | 2 => ⟨S8x2048x32, .f32⟩
  | 3 => ⟨S256x64, .f32⟩
  | 4 => ⟨S256x64, .f32⟩
  | 5 => ⟨S256, .f32⟩
  | 6 => ⟨S128x256, .f32⟩
  | 7 => ⟨S128, .f32⟩
  | 8 => ⟨S256x129, .f32⟩
  | 9 => ⟨S256, .f32⟩
  | 10 => ⟨S128x256, .f32⟩
  | 11 => ⟨S128, .f32⟩
  | 12 => ⟨S128x64, .f32⟩
  | 13 => ⟨S128, .f32⟩
  | 14 => ⟨S128x256, .f32⟩
  | 15 => ⟨S128, .f32⟩
  | 16 => ⟨S1x128, .f32⟩
  | 17 => ⟨S1, .f32⟩
  | 18 => ⟨S1024x32, .f32⟩
  | 19 => ⟨S1024, .f32⟩
  | 20 => ⟨S1024x64, .f32⟩
  | 21 => ⟨S1024, .f32⟩
  | 22 => ⟨S2048x3072, .f32⟩
  | 23 => ⟨S2048, .f32⟩
  | 24 => ⟨S1024x2048, .f32⟩
  | 25 => ⟨S1024, .f32⟩
  | 26 => ⟨S1024, .f32⟩
  | 27 => ⟨S1024, .f32⟩
  | 28 => ⟨S64x256, .f32⟩
  | 29 => ⟨S8x256, .f32⟩
  | 30 => ⟨S1x256, .f32⟩
  | 31 => ⟨S8x256, .f32⟩
  | 32 => ⟨S8x256, .f32⟩
  | 33 => ⟨S_, .f32⟩
  | 34 => ⟨S8x256, .f32⟩
  | 35 => ⟨S8x256, .f32⟩
  | 36 => ⟨S8x256, .f32⟩
  | 37 => ⟨S_, .f32⟩
  | 38 => ⟨S8x256, .f32⟩
  | 39 => ⟨S8x256, .f32⟩
  | 40 => ⟨S8x256, .f32⟩
  | 41 => ⟨S8x256, .f32⟩
  | 42 => ⟨S256x128, .f32⟩
  | 43 => ⟨S8x128, .f32⟩
  | 44 => ⟨S1x128, .f32⟩
  | 45 => ⟨S8x128, .f32⟩
  | 46 => ⟨S8x128, .f32⟩
  | 47 => ⟨S8x1x64, .f32⟩
  | 48 => ⟨S1x256x64, .f32⟩
  | 49 => ⟨S8x256x64, .f32⟩
  | 50 => ⟨S8x256x64, .f32⟩
  | 51 => ⟨S8x256x64, .f32⟩
  | 52 => ⟨S8x256x64, .f32⟩
  | 53 => ⟨S_, .f32⟩
  | 54 => ⟨S8x256, .f32⟩
  | 55 => ⟨S8x256x1, .f32⟩
  | 56 => ⟨S8x256x1, .f32⟩
  | 57 => ⟨S1x256x64, .f32⟩
  | 58 => ⟨S8x256x64, .f32⟩
  | 59 => ⟨S8x256x129, .f32⟩
  | 60 => ⟨S129x256, .f32⟩
  | 61 => ⟨S8x256x256, .f32⟩
  | 62 => ⟨S1x1x256, .f32⟩
  | 63 => ⟨S8x256x256, .f32⟩
  | 64 => ⟨S8x256x256, .f32⟩
  | 65 => ⟨S_, .f32⟩
  | 66 => ⟨S8x256x256, .f32⟩
  | 67 => ⟨S8x256x256, .f32⟩
  | 68 => ⟨S8x256x256, .f32⟩
  | 69 => ⟨S_, .f32⟩
  | 70 => ⟨S8x256x256, .f32⟩
  | 71 => ⟨S8x256x256, .f32⟩
  | 72 => ⟨S8x256x256, .f32⟩
  | 73 => ⟨S8x256x256, .f32⟩
  | 74 => ⟨S256x128, .f32⟩
  | 75 => ⟨S8x256x128, .f32⟩
  | 76 => ⟨S1x1x128, .f32⟩
  | 77 => ⟨S8x256x128, .f32⟩
  | 78 => ⟨S8x256x128, .f32⟩
  | 79 => ⟨S8x256, .f32⟩
  | 80 => ⟨S_, .f32⟩
  | 81 => ⟨S_, .f32⟩
  | 82 => ⟨S8x256, .f32⟩
  | 83 => ⟨S8x256, .f32⟩
  | 84 => ⟨S_, .f32⟩
  | 85 => ⟨S8, .f32⟩
  | 86 => ⟨S_, .f32⟩
  | 87 => ⟨S8, .f32⟩
  | 88 => ⟨S8, .f32⟩
  | 89 => ⟨S8x1, .f32⟩
  | 90 => ⟨S8x256, .f32⟩
  | 91 => ⟨S8x256, .f32⟩
  | 92 => ⟨S8x256, .f32⟩
  | 93 => ⟨S_, .f32⟩
  | 94 => ⟨S8, .f32⟩
  | 95 => ⟨S8x1, .f32⟩
  | 96 => ⟨S8x256, .f32⟩
  | 97 => ⟨S8x256, .f32⟩
  | 98 => ⟨S64x128, .f32⟩
  | 99 => ⟨S256x128, .f32⟩
  | 100 => ⟨S1x128, .f32⟩
  | 101 => ⟨S256x128, .f32⟩
  | 102 => ⟨S256x128, .f32⟩
  | 103 => ⟨S8x128, .f32⟩
  | 104 => ⟨S8x256, .f32⟩
  | 105 => ⟨S256x128, .f32⟩
  | 106 => ⟨S8x128, .f32⟩
  | 107 => ⟨S1x128, .f32⟩
  | 108 => ⟨S8x128, .f32⟩
  | 109 => ⟨S8x128, .f32⟩
  | 110 => ⟨S_, .f32⟩
  | 111 => ⟨S8x128, .f32⟩
  | 112 => ⟨S8x128, .f32⟩
  | 113 => ⟨S8x128, .f32⟩
  | 114 => ⟨S_, .f32⟩
  | 115 => ⟨S8x128, .f32⟩
  | 116 => ⟨S8x128, .f32⟩
  | 117 => ⟨S8x128, .f32⟩
  | 118 => ⟨S8x128, .f32⟩
  | 119 => ⟨S128x1, .f32⟩
  | 120 => ⟨S8x1, .f32⟩
  | 121 => ⟨S1x1, .f32⟩
  | 122 => ⟨S8x1, .f32⟩
  | 123 => ⟨S8x1, .f32⟩
  | 124 => ⟨S8x1, .f32⟩
  | 125 => ⟨S8x1, .f32⟩
  | 126 => ⟨S_, .f32⟩
  | 127 => ⟨S8x1, .f32⟩
  | _ => ⟨S8x2048x1024, .f32⟩

abbrev hbmTy0_1 (i : Nat) : BufTy := match i % 128 with
  | 0 => ⟨S8x1, .f32⟩
  | 1 => ⟨S_, .f32⟩
  | 2 => ⟨S8x1, .f32⟩
  | 3 => ⟨S8x1, .f32⟩
  | 4 => ⟨S8x1x1, .f32⟩
  | 5 => ⟨S32x1024, .f32⟩
  | 6 => ⟨S8x2048x1024, .f32⟩
  | 7 => ⟨S1x1x1024, .f32⟩
  | 8 => ⟨S8x2048x1024, .f32⟩
  | 9 => ⟨S8x2048x1024, .f32⟩
  | 10 => ⟨S64x1024, .f32⟩
  | 11 => ⟨S8x1024, .f32⟩
  | 12 => ⟨S1x1024, .f32⟩
  | 13 => ⟨S8x1024, .f32⟩
  | 14 => ⟨S8x1024, .f32⟩
  | 15 => ⟨S8x1x1024, .f32⟩
  | 16 => ⟨S8x2048x1024, .f32⟩
  | 17 => ⟨S8x2048x3072, .f32⟩
  | 18 => ⟨S3072x2048, .f32⟩
  | 19 => ⟨S8x2048x2048, .f32⟩
  | 20 => ⟨S1x1x2048, .f32⟩
  | 21 => ⟨S8x2048x2048, .f32⟩
  | 22 => ⟨S8x2048x2048, .f32⟩
  | 23 => ⟨S_, .f32⟩
  | 24 => ⟨S8x2048x2048, .f32⟩
  | 25 => ⟨S8x2048x2048, .f32⟩
  | 26 => ⟨S8x2048x2048, .f32⟩
  | 27 => ⟨S_, .f32⟩
  | 28 => ⟨S8x2048x2048, .f32⟩
  | 29 => ⟨S8x2048x2048, .f32⟩
  | 30 => ⟨S8x2048x2048, .f32⟩
  | 31 => ⟨S8x2048x2048, .f32⟩
  | 32 => ⟨S2048x1024, .f32⟩
  | 33 => ⟨S8x2048x1024, .f32⟩
  | 34 => ⟨S1x1x1024, .f32⟩
  | 35 => ⟨S8x2048x1024, .f32⟩
  | 36 => ⟨S8x2048x1024, .f32⟩
  | 37 => ⟨S_, .f32⟩
  | 38 => ⟨S8x2048, .f32⟩
  | 39 => ⟨S8x2048x1, .f32⟩
  | 40 => ⟨S_, .f32⟩
  | 41 => ⟨S8x2048x1, .f32⟩
  | 42 => ⟨S8x2048x1, .f32⟩
  | 43 => ⟨S_, .i32⟩
  | 44 => ⟨S_, .f32⟩
  | 45 => ⟨S8x2048, .f32⟩
  | 46 => ⟨S8x2048x1, .f32⟩
  | 47 => ⟨S_, .f32⟩
  | 48 => ⟨S8x2048x1, .f32⟩
  | 49 => ⟨S8x2048x1, .f32⟩
  | 50 => ⟨S8x2048x1024, .f32⟩
  | 51 => ⟨S8x2048x1024, .f32⟩
  | 52 => ⟨S8x2048x1024, .f32⟩
  | 53 => ⟨S_, .f32⟩
  | 54 => ⟨S_, .f32⟩
  | 55 => ⟨S_, .f32⟩
  | 56 => ⟨S_, .f32⟩
  | 57 => ⟨S8x2048, .f32⟩
  | 58 => ⟨S8x2048x1, .f32⟩
  | 59 => ⟨S8x2048x1, .f32⟩
  | 60 => ⟨S8x2048x1, .f32⟩
  | 61 => ⟨S_, .f32⟩
  | 62 => ⟨S_, .i1⟩
  | 63 => ⟨S_, .f32⟩
  | 64 => ⟨S_, .f32⟩
  | 65 => ⟨S8x2048x1, .f32⟩
  | 66 => ⟨S8x2048x1, .f32⟩
  | 67 => ⟨S8x2048x1024, .f32⟩
  | 68 => ⟨S8x2048x1024, .f32⟩
  | 69 => ⟨S_, .f32⟩
  | 70 => ⟨S8x2048x1, .f32⟩
  | 71 => ⟨S8x2048x1, .f32⟩
  | 72 => ⟨S8x2048x1, .f32⟩
  | 73 => ⟨S8x2048x1024, .f32⟩
  | 74 => ⟨S8x2048x1024, .f32⟩
  | 75 => ⟨S1x1x1024, .f32⟩
  | 76 => ⟨S8x2048x1024, .f32⟩
  | 77 => ⟨S8x2048x1024, .f32⟩
  | 78 => ⟨S1x1x1024, .f32⟩
  | 79 => ⟨S8x2048x1024, .f32⟩
  | 80 => ⟨S8x2048x1024, .f32⟩
  | 81 => ⟨S8x2048x1024, .f32⟩
  | 82 => ⟨S8x2048x1024, .f32⟩
  | 83 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_call0_v0 : Ref sig .tc := ⟨.hbm, 52, rfl⟩
abbrev main_call0_cst : Ref sig .tc := ⟨.hbm, 53, rfl⟩
abbrev main_call0_v1 : Ref sig .tc := ⟨.hbm, 54, rfl⟩
abbrev main_call0_v2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_1 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_cst_2 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_3 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_4 : Ref sig .tc := ⟨.hbm, 84, rfl⟩
abbrev main_v47 : Ref sig .tc := ⟨.hbm, 85, rfl⟩
abbrev main_cst_5 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_6 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_7 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_8 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_9 : Ref sig .tc := ⟨.hbm, 126, rfl⟩
abbrev main_v84 : Ref sig .tc := ⟨.hbm, 127, rfl⟩
abbrev main_v85 : Ref sig .tc := ⟨.hbm, 128, rfl⟩
abbrev main_cst_10 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_11 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_12 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_13 : Ref sig .tc := ⟨.hbm, 165, rfl⟩
abbrev main_v119 : Ref sig .tc := ⟨.hbm, 166, rfl⟩
abbrev main_v120 : Ref sig .tc := ⟨.hbm, 167, rfl⟩
abbrev main_cst_14 : Ref sig .tc := ⟨.hbm, 168, rfl⟩
abbrev main_v121 : Ref sig .tc := ⟨.hbm, 169, rfl⟩
abbrev main_v122 : Ref sig .tc := ⟨.hbm, 170, rfl⟩
abbrev main_c : Ref sig .tc := ⟨.hbm, 171, rfl⟩
abbrev main_call1_cst : Ref sig .tc := ⟨.hbm, 172, rfl⟩
abbrev main_call1_v0 : Ref sig .tc := ⟨.hbm, 173, rfl⟩
abbrev main_call1_v1 : Ref sig .tc := ⟨.hbm, 174, rfl⟩
abbrev main_call1_cst_0 : Ref sig .tc := ⟨.hbm, 175, rfl⟩
abbrev main_call1_v2 : Ref sig .tc := ⟨.hbm, 176, rfl⟩
abbrev main_call1_v3 : Ref sig .tc := ⟨.hbm, 177, rfl⟩
abbrev main_call1_v4 : Ref sig .tc := ⟨.hbm, 178, rfl⟩
abbrev main_call1_v5 : Ref sig .tc := ⟨.hbm, 179, rfl⟩
abbrev main_call1_v6 : Ref sig .tc := ⟨.hbm, 180, rfl⟩
abbrev main_call1_v7 : Ref sig .tc := ⟨.hbm, 181, rfl⟩
abbrev main_call1_cst_1 : Ref sig .tc := ⟨.hbm, 182, rfl⟩
abbrev main_call1_v8 : Ref sig .tc := ⟨.hbm, 183, rfl⟩
abbrev main_call1_cst_2 : Ref sig .tc := ⟨.hbm, 184, rfl⟩
abbrev main_call1_v9 : Ref sig .tc := ⟨.hbm, 185, rfl⟩
abbrev main_call1_v10 : Ref sig .tc := ⟨.hbm, 186, rfl⟩
abbrev main_call1_v11 : Ref sig .tc := ⟨.hbm, 187, rfl⟩
abbrev main_call1_v12 : Ref sig .tc := ⟨.hbm, 188, rfl⟩
abbrev main_call1_cst_3 : Ref sig .tc := ⟨.hbm, 189, rfl⟩
abbrev main_call1_v13 : Ref sig .tc := ⟨.hbm, 190, rfl⟩
abbrev main_call1_cst_4 : Ref sig .tc := ⟨.hbm, 191, rfl⟩
abbrev main_call1_call0_v0 : Ref sig .tc := ⟨.hbm, 192, rfl⟩
abbrev main_call1_call0_v1 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_cst_15 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩

abbrev nD : Nat := 1
abbrev τ : Topo := Topo.v7x

variable {F : FTy → Type} [FloatOps F]
-- ==== Proof.KernelIdeal.GateBody.lean ====
/- The first region of the program, the gate kernel, at every grid point: what its body leaves in each of its five
   output windows, that the body runs, in the two cases of whether the point is the first.

   The similarity gate (output window 26) is computed at the first grid point alone and kept in its staging buffer;
   the other four outputs are computed at every point from the weight blocks of that point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The rectangles: every access of this body takes a whole buffer -/

/-- The whole of a buffer of shape `S8x64`. -/
abbrev wholeS8x64 : Rect S8x64 := Rect.unit (s := S8x64) ![0, 0] S8x64.size inb_S8x64_S8x64_0_0
/-- The whole of a buffer of shape `S256x64`. -/
abbrev wholeS256x64 : Rect S256x64 := Rect.unit (s := S256x64) ![0, 0] S256x64.size inb_S256x64_S256x64_0_0
/-- The whole of a buffer of shape `S1x256`. -/
abbrev wholeS1x256 : Rect S1x256 := Rect.unit (s := S1x256) ![0, 0] S1x256.size inb_S1x256_S1x256_0_0
/-- The whole of a buffer of shape `S128x256`. -/
abbrev wholeS128x256 : Rect S128x256 := Rect.unit (s := S128x256) ![0, 0] S128x256.size inb_S128x256_S128x256_0_0
/-- The whole of a buffer of shape `S1x128`. -/
abbrev wholeS1x128 : Rect S1x128 := Rect.unit (s := S1x128) ![0, 0] S1x128.size inb_S1x128_S1x128_0_0
/-- The whole of a buffer of shape `S128x64`. -/
abbrev wholeS128x64 : Rect S128x64 := Rect.unit (s := S128x64) ![0, 0] S128x64.size inb_S128x64_S128x64_0_0
/-- The whole of a buffer of shape `S128x128`. -/
abbrev wholeS128x128 : Rect S128x128 := Rect.unit (s := S128x128) ![0, 0] S128x128.size inb_S128x128_S128x128_0_0
/-- The whole of a buffer of shape `S128x1`. -/
abbrev wholeS128x1 : Rect S128x1 := Rect.unit (s := S128x1) ![0, 0] S128x1.size inb_S128x1_S128x1_0_0
/-- The whole of a buffer of shape `S1x1`. -/
abbrev wholeS1x1 : Rect S1x1 := Rect.unit (s := S1x1) ![0, 0] S1x1.size inb_S1x1_S1x1_0_0
/-- The whole of a buffer of shape `S1024x64`. -/
abbrev wholeS1024x64 : Rect S1024x64 := Rect.unit (s := S1024x64) ![0, 0] S1024x64.size inb_S1024x64_S1024x64_0_0
/-- The whole of a buffer of shape `S1x1024`. -/
abbrev wholeS1x1024 : Rect S1x1024 := Rect.unit (s := S1x1024) ![0, 0] S1x1024.size inb_S1x1024_S1x1024_0_0
/-- The whole of a buffer of shape `S512x3072`. -/
abbrev wholeS512x3072 : Rect S512x3072 := Rect.unit (s := S512x3072) ![0, 0] S512x3072.size inb_S512x3072_S512x3072_0_0
/-- The whole of a buffer of shape `S1024x512`. -/
abbrev wholeS1024x512 : Rect S1024x512 := Rect.unit (s := S1024x512) ![0, 0] S1024x512.size inb_S1024x512_S1024x512_0_0
/-- The whole of a buffer of shape `S1024x32`. -/
abbrev wholeS1024x32 : Rect S1024x32 := Rect.unit (s := S1024x32) ![0, 0] S1024x32.size inb_S1024x32_S1024x32_0_0
/-- The whole of a buffer of shape `S1x512`. -/
abbrev wholeS1x512 : Rect S1x512 := Rect.unit (s := S1x512) ![0, 0] S1x512.size inb_S1x512_S1x512_0_0
/-- The whole of a buffer of shape `S8x128`. -/
abbrev wholeS8x128 : Rect S8x128 := Rect.unit (s := S8x128) ![0, 0] S8x128.size inb_S8x128_S8x128_0_0
/-- The whole of a buffer of shape `S8x512`. -/
abbrev wholeS8x512 : Rect S8x512 := Rect.unit (s := S8x512) ![0, 0] S8x512.size inb_S8x512_S8x512_0_0
/-- The whole of a buffer of shape `S512x32`. -/
abbrev wholeS512x32 : Rect S512x32 := Rect.unit (s := S512x32) ![0, 0] S512x32.size inb_S512x32_S512x32_0_0
/-- The whole of a buffer of shape `S512x1024`. -/
abbrev wholeS512x1024 : Rect S512x1024 := Rect.unit (s := S512x1024) ![0, 0] S512x1024.size inb_S512x1024_S512x1024_0_0

/-! ## What the body computes -/

/-- The similarity gate: from the static features and the gate's weights, one value per batch row, in every lane. -/
def alphaOf (x0 : Vec F S8x64 .f32) (x1 : Vec F S256x64 .f32) (x2 : Vec F S256x64 .f32) (x3 : Vec F S1x256 .f32) (x4 : Vec F S128x256 .f32) (x5 : Vec F S1x128 .f32) (x6 : Vec F S256x64 .f32) (x7 : Vec F S256x64 .f32) (x8 : Vec F S1x256 .f32) (x9 : Vec F S1x256 .f32) (x10 : Vec F S128x256 .f32) (x11 : Vec F S1x128 .f32) (x12 : Vec F S128x64 .f32) (x13 : Vec F S1x128 .f32) (x14 : Vec F S128x128 .f32) (x15 : Vec F S128x128 .f32) (x16 : Vec F S1x128 .f32) (x17 : Vec F S128x1 .f32) (x18 : Vec F S1x1 .f32) : Vec F S8x128 .f32 :=
  let cur := k0_pay2 (View.ld x0 wholeS8x64) (View.ld x2 wholeS256x64) (View.ld x3 wholeS1x256) (View.ld x4 wholeS128x256) (View.ld x5 wholeS1x128)
  let hid := k0_pay7 cur (k0_pay4 (View.ld x0 wholeS8x64) (View.ld x1 wholeS256x64)) (k0_pay5 (View.ld x0 wholeS8x64) (View.ld x1 wholeS256x64)) (k0_pay6 (View.ld x1 wholeS256x64) (View.ld x6 wholeS256x64)) (View.ld x9 wholeS1x256) (View.ld x7 wholeS256x64) (View.ld x8 wholeS1x256) (View.ld x10 wholeS128x256) (View.ld x11 wholeS1x128)
  let nb := k0_pay8 cur (k0_pay4 (View.ld x0 wholeS8x64) (View.ld x1 wholeS256x64)) (k0_pay5 (View.ld x0 wholeS8x64) (View.ld x1 wholeS256x64)) (k0_pay6 (View.ld x1 wholeS256x64) (View.ld x6 wholeS256x64)) (View.ld x9 wholeS1x256) (View.ld x7 wholeS256x64) (View.ld x8 wholeS1x256) (View.ld x10 wholeS128x256) (View.ld x11 wholeS1x128)
  View.canon [⟨wholeS8x128, k0_pay11 (k0_pay9 (View.ld x1 wholeS256x64) cur hid nb (View.ld x12 wholeS128x64) (View.ld x13 wholeS1x128) (View.ld x14 wholeS128x128) (View.ld x15 wholeS128x128) (View.ld x16 wholeS1x128) (View.ld x17 wholeS128x1)) (k0_pay10 (View.ld x18 wholeS1x1))⟩]

/-- The bias of 512 hidden units of the time network's first layer, per batch row: the static context and the two
    bias vectors pushed through the first layer's weights. -/
def biasOf (x0 : Vec F S8x64 .f32) (x19 : Vec F S1024x64 .f32) (x20 : Vec F S1x1024 .f32) (x21 : Vec F S512x3072 .f32) (x24 : Vec F S1x1024 .f32) (x25 : Vec F S1x512 .f32) : Vec F S8x512 .f32 :=
  View.canon [⟨wholeS8x512, k0_pay13 (View.ld x21 wholeS512x3072) (View.ld x0 wholeS8x64) (View.ld x19 wholeS1024x64) (View.ld x20 wholeS1x1024) (View.ld x25 wholeS1x512) (View.ld x24 wholeS1x1024)⟩]

/-- The folded time weights of 512 hidden units. -/
def timeOf (x21 : Vec F S512x3072 .f32) (x23 : Vec F S1024x32 .f32) : Vec F S512x32 .bf16 :=
  View.canon [⟨wholeS512x32, k0_pay14 (View.ld x21 wholeS512x3072) (View.ld x23 wholeS1024x32)⟩]

/-- The hidden-state weights of 512 hidden units, as the second kernel reads them. -/
def firstOf (x21 : Vec F S512x3072 .f32) : Vec F S512x1024 .bf16 :=
  View.canon [⟨wholeS512x1024, k0_pay15 (View.ld x21 wholeS512x3072)⟩]

/-- The second layer's weights of 512 hidden units, as the second kernel reads them. -/
def secondOf (x22 : Vec F S1024x512 .f32) : Vec F S1024x512 .bf16 :=
  View.canon [⟨wholeS1024x512, k0_pay1 (View.ld x22 wholeS1024x512)⟩]

/-! ## One store fills each output buffer -/

/-- A store of the whole of `S8x128` covers it. -/
theorem cover_alpha (p : Vec F S8x128 .f32) (y : S8x128.Idx) :
    ∃ pc ∈ ([⟨wholeS8x128, p⟩] : List (View.Piece (Elt F) S8x128 .f32)), y ∈ pc.1.set :=
  View.cover_of_tiled [⟨wholeS8x128, p⟩] S8x128.size (by rfl) y

/-- A store of the whole of `S8x512` covers it. -/
theorem cover_bias (p : Vec F S8x512 .f32) (y : S8x512.Idx) :
    ∃ pc ∈ ([⟨wholeS8x512, p⟩] : List (View.Piece (Elt F) S8x512 .f32)), y ∈ pc.1.set :=
  View.cover_of_tiled [⟨wholeS8x512, p⟩] S8x512.size (by rfl) y

/-- A store of the whole of `S512x32` covers it. -/
theorem cover_time (p : Vec F S512x32 .bf16) (y : S512x32.Idx) :
    ∃ pc ∈ ([⟨wholeS512x32, p⟩] : List (View.Piece (Elt F) S512x32 .bf16)), y ∈ pc.1.set :=
  View.cover_of_tiled [⟨wholeS512x32, p⟩] S512x32.size (by rfl) y

/-- A store of the whole of `S512x1024` covers it. -/
theorem cover_first (p : Vec F S512x1024 .bf16) (y : S512x1024.Idx) :
    ∃ pc ∈ ([⟨wholeS512x1024, p⟩] : List (View.Piece (Elt F) S512x1024 .bf16)), y ∈ pc.1.set :=
  View.cover_of_tiled [⟨wholeS512x1024, p⟩] S512x1024.size (by rfl) y

/-- A store of the whole of `S1024x512` covers it. -/
theorem cover_second (p : Vec F S1024x512 .bf16) (y : S1024x512.Idx) :
    ∃ pc ∈ ([⟨wholeS1024x512, p⟩] : List (View.Piece (Elt F) S1024x512 .bf16)), y ∈ pc.1.set :=
  View.cover_of_tiled [⟨wholeS1024x512, p⟩] S1024x512.size (by rfl) y

/-! ## The body runs -/

set_option maxHeartbeats 2000000 in
/-- At the first grid point the body, on the 26 input buffers at contents `x0` … `x25` and the output buffers at
    anything, leaves the inputs as they were and fills all five outputs. -/
theorem body_first (c : Dev nD) (E : Set ℕ) (i : grid0.Coords) (hc : k0_cond1 i = 1#1) (arg1 : Memref sig .tc .vmem S8x64 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S1x256 .f32) (harg4 : arg4.IsWhole) (arg5 : Memref sig .tc .vmem S128x256 .f32) (harg5 : arg5.IsWhole) (arg6 : Memref sig .tc .vmem S1x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x1 .f32) (harg18 : arg18.IsWhole) (arg19 : Memref sig .tc .vmem S1x1 .f32) (harg19 : arg19.IsWhole) (arg20 : Memref sig .tc .vmem S1024x64 .f32) (harg20 : arg20.IsWhole) (arg21 : Memref sig .tc .vmem S1x1024 .f32) (harg21 : arg21.IsWhole) (arg22 : Memref sig .tc .vmem S512x3072 .f32) (harg22 : arg22.IsWhole) (arg23 : Memref sig .tc .vmem S1024x512 .f32) (harg23 : arg23.IsWhole) (arg24 : Memref sig .tc .vmem S1024x32 .f32) (harg24 : arg24.IsWhole) (arg25 : Memref sig .tc .vmem S1x1024 .f32) (harg25 : arg25.IsWhole) (arg26 : Memref sig .tc .vmem S1x512 .f32) (harg26 : arg26.IsWhole) (arg27 : Memref sig .tc .vmem S8x128 .f32) (harg27 : arg27.IsWhole) (arg28 : Memref sig .tc .vmem S8x512 .f32) (harg28 : arg28.IsWhole) (arg29 : Memref sig .tc .vmem S512x32 .bf16) (harg29 : arg29.IsWhole) (arg30 : Memref sig .tc .vmem S512x1024 .bf16) (harg30 : arg30.IsWhole) (arg31 : Memref sig .tc .vmem S1024x512 .bf16) (harg31 : arg31.IsWhole)
    (x0 : Vec F S8x64 .f32) (x1 : Vec F S256x64 .f32) (x2 : Vec F S256x64 .f32) (x3 : Vec F S1x256 .f32) (x4 : Vec F S128x256 .f32) (x5 : Vec F S1x128 .f32) (x6 : Vec F S256x64 .f32) (x7 : Vec F S256x64 .f32) (x8 : Vec F S1x256 .f32) (x9 : Vec F S1x256 .f32) (x10 : Vec F S128x256 .f32) (x11 : Vec F S1x128 .f32) (x12 : Vec F S128x64 .f32) (x13 : Vec F S1x128 .f32) (x14 : Vec F S128x128 .f32) (x15 : Vec F S128x128 .f32) (x16 : Vec F S1x128 .f32) (x17 : Vec F S128x1 .f32) (x18 : Vec F S1x1 .f32) (x19 : Vec F S1024x64 .f32) (x20 : Vec F S1x1024 .f32) (x21 : Vec F S512x3072 .f32) (x22 : Vec F S1024x512 .f32) (x23 : Vec F S1024x32 .f32) (x24 : Vec F S1x1024 .f32) (x25 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare (alphaOf x0 x1 x2 x3 x4 x5 x6 x7 x8 x9 x10 x11 x12 x13 x14 x15 x16 x17 x18) ∗ owns (c : Thread nD τ) arg28 fullShare (biasOf x0 x19 x20 x21 x24 x25) ∗ owns (c : Thread nD τ) arg29 fullShare (timeOf x21 x23) ∗ owns (c : Thread nD τ) arg30 fullShare (firstOf x21) ∗ owns (c : Thread nD τ) arg31 fullShare (secondOf x22)) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0__gate_kernel_eq_skeleton, k0_part1_eq_skeleton, k0_part2_eq_skeleton, k0_part3_eq_skeleton, k0_part4_eq_skeleton, cc0__gate_kernel_skel, k0_part1_skel, k0_part2_skel, k0_part3_skel, k0_part4_skel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, %hf26, H26⟩, ⟨%d27, %f27, %hf27, H27⟩, ⟨%d28, %f28, %hf28, H28⟩, ⟨%d29, %f29, %hf29, H29⟩, ⟨%d30, %f30, %hf30, H30⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists _; isplitr
    swap; · iexact H26
    ipureintro
    refine (View.read_writes_eq_canon _ _ _ (cover_alpha _)).trans ?_
    rfl
  isplitl [H27]
  · iexists _; isplitr
    swap; · iexact H27
    ipureintro
    refine (View.read_writes_eq_canon _ _ _ (cover_bias _)).trans ?_
    rfl
  isplitl [H28]
  · iexists _; isplitr
    swap; · iexact H28
    ipureintro
    refine (View.read_writes_eq_canon _ _ _ (cover_time _)).trans ?_
    rfl
  isplitl [H29]
  · iexists _; isplitr
    swap; · iexact H29
    ipureintro
    refine (View.read_writes_eq_canon _ _ _ (cover_first _)).trans ?_
    rfl
  iexists _; isplitr
  swap; · iexact H30
  ipureintro
  refine (View.read_writes_eq_canon _ _ _ (cover_second _)).trans ?_
  rfl

set_option maxHeartbeats 2000000 in
/-- At every later grid point the gate is not computed again: its buffer keeps whatever it held, `xa`, and the other four
    outputs are filled. -/
theorem body_later (c : Dev nD) (E : Set ℕ) (i : grid0.Coords) (hc : ¬ k0_cond1 i = 1#1) (arg1 : Memref sig .tc .vmem S8x64 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S1x256 .f32) (harg4 : arg4.IsWhole) (arg5 : Memref sig .tc .vmem S128x256 .f32) (harg5 : arg5.IsWhole) (arg6 : Memref sig .tc .vmem S1x128 .f32) (harg6 : arg6.IsWhole) (arg7 : Memref sig .tc .vmem S256x64 .f32) (harg7 : arg7.IsWhole) (arg8 : Memref sig .tc .vmem S256x64 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S128x256 .f32) (harg11 : arg11.IsWhole) (arg12 : Memref sig .tc .vmem S1x128 .f32) (harg12 : arg12.IsWhole) (arg13 : Memref sig .tc .vmem S128x64 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S128x1 .f32) (harg18 : arg18.IsWhole) (arg19 : Memref sig .tc .vmem S1x1 .f32) (harg19 : arg19.IsWhole) (arg20 : Memref sig .tc .vmem S1024x64 .f32) (harg20 : arg20.IsWhole) (arg21 : Memref sig .tc .vmem S1x1024 .f32) (harg21 : arg21.IsWhole) (arg22 : Memref sig .tc .vmem S512x3072 .f32) (harg22 : arg22.IsWhole) (arg23 : Memref sig .tc .vmem S1024x512 .f32) (harg23 : arg23.IsWhole) (arg24 : Memref sig .tc .vmem S1024x32 .f32) (harg24 : arg24.IsWhole) (arg25 : Memref sig .tc .vmem S1x1024 .f32) (harg25 : arg25.IsWhole) (arg26 : Memref sig .tc .vmem S1x512 .f32) (harg26 : arg26.IsWhole) (arg27 : Memref sig .tc .vmem S8x128 .f32) (harg27 : arg27.IsWhole) (arg28 : Memref sig .tc .vmem S8x512 .f32) (harg28 : arg28.IsWhole) (arg29 : Memref sig .tc .vmem S512x32 .bf16) (harg29 : arg29.IsWhole) (arg30 : Memref sig .tc .vmem S512x1024 .bf16) (harg30 : arg30.IsWhole) (arg31 : Memref sig .tc .vmem S1024x512 .bf16) (harg31 : arg31.IsWhole)
    (x0 : Vec F S8x64 .f32) (x1 : Vec F S256x64 .f32) (x2 : Vec F S256x64 .f32) (x3 : Vec F S1x256 .f32) (x4 : Vec F S128x256 .f32) (x5 : Vec F S1x128 .f32) (x6 : Vec F S256x64 .f32) (x7 : Vec F S256x64 .f32) (x8 : Vec F S1x256 .f32) (x9 : Vec F S1x256 .f32) (x10 : Vec F S128x256 .f32) (x11 : Vec F S1x128 .f32) (x12 : Vec F S128x64 .f32) (x13 : Vec F S1x128 .f32) (x14 : Vec F S128x128 .f32) (x15 : Vec F S128x128 .f32) (x16 : Vec F S1x128 .f32) (x17 : Vec F S128x1 .f32) (x18 : Vec F S1x1 .f32) (x19 : Vec F S1024x64 .f32) (x20 : Vec F S1x1024 .f32) (x21 : Vec F S512x3072 .f32) (x22 : Vec F S1024x512 .f32) (x23 : Vec F S1024x32 .f32) (x24 : Vec F S1x1024 .f32) (x25 : Vec F S1x512 .f32) (xa : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare xa ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare xa ∗ owns (c : Thread nD τ) arg28 fullShare (biasOf x0 x19 x20 x21 x24 x25) ∗ owns (c : Thread nD τ) arg29 fullShare (timeOf x21 x23) ∗ owns (c : Thread nD τ) arg30 fullShare (firstOf x21) ∗ owns (c : Thread nD τ) arg31 fullShare (secondOf x22)) -∗ K ⟨⟩))
      ⊢ wp frame (wpE (defs₀ (F := F)) Variants.none c none) E (cc0__gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0__gate_kernel_eq_skeleton, k0_part1_eq_skeleton, k0_part2_eq_skeleton, k0_part3_eq_skeleton, k0_part4_eq_skeleton, cc0__gate_kernel_skel, k0_part1_skel, k0_part2_skel, k0_part3_skel, k0_part4_skel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, %hf27, H27⟩, ⟨%d28, %f28, %hf28, H28⟩, ⟨%d29, %f29, %hf29, H29⟩, ⟨%d30, %f30, %hf30, H30⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists _; isplitr
    swap; · iexact H27
    ipureintro
    refine (View.read_writes_eq_canon _ _ _ (cover_bias _)).trans ?_
    rfl
  isplitl [H28]
  · iexists _; isplitr
    swap; · iexact H28
    ipureintro
    refine (View.read_writes_eq_canon _ _ _ (cover_time _)).trans ?_
    rfl
  isplitl [H29]
  · iexists _; isplitr
    swap; · iexact H29
    ipureintro
    refine (View.read_writes_eq_canon _ _ _ (cover_first _)).trans ?_
    rfl
  iexists _; isplitr
  swap; · iexact H30
  ipureintro
  refine (View.read_writes_eq_canon _ _ _ (cover_second _)).trans ?_
  rfl

end Cert.KernelIdeal.Gate
-- ==== Proof.KernelIdeal.Gate.lean ====
/- The first region as a pipeline: its proof data at the contents the region is entered with, the buffer that is written
   once (the similarity gate), and the obligation the pipeline asks of the body at every point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.GateBody
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The pipeline's data, at the buffer contents `V` the region is entered with -/

section Data
variable (V : (c : Dev nD) → (b : Ref sig .tc) → Buf (Elt F) ((c : Thread nD τ).loc b))

/-- The block of window `w` at grid point `t`, as its array stands when the region is entered. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
def start0 : Fin cfg0.N := ⟨0, by decide⟩

/-- The gate the region computes, once. -/
def gate0 (c : Dev nD) : Vec F S8x128 .f32 := alphaOf (blk0 V c 0 start0) (blk0 V c 1 start0) (blk0 V c 2 start0) (blk0 V c 3 start0) (blk0 V c 4 start0) (blk0 V c 5 start0) (blk0 V c 6 start0) (blk0 V c 7 start0) (blk0 V c 8 start0) (blk0 V c 9 start0) (blk0 V c 10 start0) (blk0 V c 11 start0) (blk0 V c 12 start0) (blk0 V c 13 start0) (blk0 V c 14 start0) (blk0 V c 15 start0) (blk0 V c 16 start0) (blk0 V c 17 start0) (blk0 V c 18 start0)

/-- The proof data of this pipeline: inputs stay at their blocks; the gate's buffer holds the gate after every point; the
    other outputs hold what the body computes from the point's blocks. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => blk0 V c 10 t
    | ⟨11, _⟩ => blk0 V c 11 t
    | ⟨12, _⟩ => blk0 V c 12 t
    | ⟨13, _⟩ => blk0 V c 13 t
    | ⟨14, _⟩ => blk0 V c 14 t
    | ⟨15, _⟩ => blk0 V c 15 t
    | ⟨16, _⟩ => blk0 V c 16 t
    | ⟨17, _⟩ => blk0 V c 17 t
    | ⟨18, _⟩ => blk0 V c 18 t
    | ⟨19, _⟩ => blk0 V c 19 t
    | ⟨20, _⟩ => blk0 V c 20 t
    | ⟨21, _⟩ => blk0 V c 21 t
    | ⟨22, _⟩ => blk0 V c 22 t
    | ⟨23, _⟩ => blk0 V c 23 t
    | ⟨24, _⟩ => blk0 V c 24 t
    | ⟨25, _⟩ => blk0 V c 25 t
    | ⟨26, _⟩ => gate0 V c
    | ⟨27, _⟩ => biasOf (blk0 V c 0 t) (blk0 V c 19 t) (blk0 V c 20 t) (blk0 V c 21 t) (blk0 V c 24 t) (blk0 V c 25 t)
    | ⟨28, _⟩ => timeOf (blk0 V c 21 t) (blk0 V c 23 t)
    | ⟨29, _⟩ => firstOf (blk0 V c 21 t)
    | ⟨30, _⟩ => secondOf (blk0 V c 22 t)
    | ⟨_ + 31, h⟩ => absurd h (Nat.not_lt.2 (Nat.le_add_left _ _))
  Φ _ := Pipeline.ΦA spec0 c
  q _ := fullShare
  owed _ := 0

/-- The arrays of the proof data are the contents at entry. -/
theorem A_eq0 (c : Dev nD) (w : Fin cfg0.W) : (dat0 V c).A w = V c (Pipeline.arrRef spec0 w) := by
  dsimp only [dat0]

/-! What each window's buffer holds after the body. -/

/-- What window 0 holds after a step. -/
theorem after0_0 (c : Dev nD) (t : Fin cfg0.N) : (dat0 V c).after 0 t = blk0 V c 0 t := by dsimp only [dat0]
/-- What window 1 holds after a step. -/
theorem after0_1 (c : Dev nD) (t : Fin cfg0.N) : (dat0 V c).after 1 t = blk0 V c 1 t := by dsimp only [dat0]
/-- What window 2 holds after a step. -/
theorem after0_2 (c : Dev nD) (t : Fin cfg0.N) : (dat0 V c).after 2 t = blk0 V c 2 t := by dsimp only [dat0]
/-- What window 3 holds after a step. -/
theorem after0_3 (c : Dev nD) (t : Fin cfg0.N) : (dat0 V c).after 3 t = blk0 V c 3 t := by dsimp only [dat0]
/-- What window 4 holds after a step. -/
theorem after0_4 (c : Dev nD) (t : Fin cfg0.N) : (dat0 V c).after 4 t = blk0 V c 4 t := by dsimp only [dat0]
/-- What window 5 holds after a step. -/
theorem after0_5 (c : Dev nD) (t : Fin cfg0.N) : (dat0 V c).after 5 t = blk0 V c 5 t := by dsimp only [dat0]
/-- What window 6 holds after a step. -/
theorem after0_6 (c : Dev nD) (t : Fin cfg0.N) : (dat0 V c).after 6 t = blk0 V c 6 t := by dsimp only [dat0]
/-- What window 7 holds after a step. -/
theorem after0_7 (c : Dev nD) (t : Fin cfg0.N) : (dat0 V c).after 7 t = blk0 V c 7 t := by dsimp only [dat0]
/-- What window 8 holds after a step. -/
theorem after0_8 (c : Dev nD) (t : Fin cfg0.N) : (dat0 V c).after 8 t = blk0 V c 8 t := by dsimp only [dat0]
/-- What window 9 holds after a step. -/
theorem after0_9 (c : Dev nD) (t : Fin cfg0.N) : (dat0 V c).after 9 t = blk0 V c 9 t := by dsimp only [dat0]
/-- What window 10 holds after a step. -/
theorem after0_10 (c : Dev nD) (t : Fin cfg0.N) : (dat0 V c).after 10 t = blk0 V c 10 t := by dsimp only [dat0]
/-- What window 11 holds after a step. -/
theorem after0_11 (c : Dev nD) (t : Fin cfg0.N) : (dat0 V c).after 11 t = blk0 V c 11 t := by dsimp only [dat0]
/-- What window 12 holds after a step. -/
theorem after0_12 (c : Dev nD) (t : Fin cfg0.N) : (dat0 V c).after 12 t = blk0 V c 12 t := by dsimp only [dat0]
/-- What window 13 holds after a step. -/
theorem after0_13 (c : Dev nD) (t : Fin cfg0.N) : (dat0 V c).after 13 t = blk0 V c 13 t := by dsimp only [dat0]
/-- What window 14 holds after a step. -/
theorem after0_14 (c : Dev nD) (t : Fin cfg0.N) : (dat0 V c).after 14 t = blk0 V c 14 t := by dsimp only [dat0]
/-- What window 15 holds after a step. -/
theorem after0_15 (c : Dev nD) (t : Fin cfg0.N) : (dat0 V c).after 15 t = blk0 V c 15 t := by dsimp only [dat0]
/-- What window 16 holds after a step. -/
theorem after0_16 (c : Dev nD) (t : Fin cfg0.N) : (dat0 V c).after 16 t = blk0 V c 16 t := by dsimp only [dat0]
/-- What window 17 holds after a step. -/
theorem after0_17 (c : Dev nD) (t : Fin cfg0.N) : (dat0 V c).after 17 t = blk0 V c 17 t := by dsimp only [dat0]
/-- What window 18 holds after a step. -/
theorem after0_18 (c : Dev nD) (t : Fin cfg0.N) : (dat0 V c).after 18 t = blk0 V c 18 t := by dsimp only [dat0]
/-- What window 19 holds after a step. -/
theorem after0_19 (c : Dev nD) (t : Fin cfg0.N) : (dat0 V c).after 19 t = blk0 V c 19 t := by dsimp only [dat0]
/-- What window 20 holds after a step. -/
theorem after0_20 (c : Dev nD) (t : Fin cfg0.N) : (dat0 V c).after 20 t = blk0 V c 20 t := by dsimp only [dat0]
/-- What window 21 holds after a step. -/
theorem after0_21 (c : Dev nD) (t : Fin cfg0.N) : (dat0 V c).after 21 t = blk0 V c 21 t := by dsimp only [dat0]
/-- What window 22 holds after a step. -/
theorem after0_22 (c : Dev nD) (t : Fin cfg0.N) : (dat0 V c).after 22 t = blk0 V c 22 t := by dsimp only [dat0]
/-- What window 23 holds after a step. -/
theorem after0_23 (c : Dev nD) (t : Fin cfg0.N) : (dat0 V c).after 23 t = blk0 V c 23 t := by dsimp only [dat0]
/-- What window 24 holds after a step. -/
theorem after0_24 (c : Dev nD) (t : Fin cfg0.N) : (dat0 V c).after 24 t = blk0 V c 24 t := by dsimp only [dat0]
/-- What window 25 holds after a step. -/
theorem after0_25 (c : Dev nD) (t : Fin cfg0.N) : (dat0 V c).after 25 t = blk0 V c 25 t := by dsimp only [dat0]
/-- What window 26 holds after a step. -/
theorem after0_26 (c : Dev nD) (t : Fin cfg0.N) : (dat0 V c).after 26 t = gate0 V c := by dsimp only [dat0]
/-- What window 27 holds after a step. -/
theorem after0_27 (c : Dev nD) (t : Fin cfg0.N) : (dat0 V c).after 27 t = biasOf (blk0 V c 0 t) (blk0 V c 19 t) (blk0 V c 20 t) (blk0 V c 21 t) (blk0 V c 24 t) (blk0 V c 25 t) := by dsimp only [dat0]
/-- What window 28 holds after a step. -/
theorem after0_28 (c : Dev nD) (t : Fin cfg0.N) : (dat0 V c).after 28 t = timeOf (blk0 V c 21 t) (blk0 V c 23 t) := by dsimp only [dat0]
/-- What window 29 holds after a step. -/
theorem after0_29 (c : Dev nD) (t : Fin cfg0.N) : (dat0 V c).after 29 t = firstOf (blk0 V c 21 t) := by dsimp only [dat0]
/-- What window 30 holds after a step. -/
theorem after0_30 (c : Dev nD) (t : Fin cfg0.N) : (dat0 V c).after 30 t = secondOf (blk0 V c 22 t) := by dsimp only [dat0]

/-! What each input window's buffer holds before the body: its block, whether or not it was fetched at this point. -/

/-- Window 0 holds its block before a step. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]) t d).trans (by unfold Dat.fetched Dat.blockOf blk0; rw [A_eq0]; rfl)
/-- Window 1 holds its block before a step. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]) t d).trans (by unfold Dat.fetched Dat.blockOf blk0; rw [A_eq0]; rfl)
/-- Window 2 holds its block before a step. -/
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]) t d).trans (by unfold Dat.fetched Dat.blockOf blk0; rw [A_eq0]; rfl)
/-- Window 3 holds its block before a step. -/
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [A_eq0]) t d).trans (by unfold Dat.fetched Dat.blockOf blk0; rw [A_eq0]; rfl)
/-- Window 4 holds its block before a step. -/
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [A_eq0]) t d).trans (by unfold Dat.fetched Dat.blockOf blk0; rw [A_eq0]; rfl)
/-- Window 5 holds its block before a step. -/
theorem before0_5 (c : Dev nD) (t : Fin cfg0.N) (d) : (dat0 V c).before 5 t d = blk0 V c 5 t :=
  ((dat0 V c).before_in_eq_fetched 5 rfl (fun _ => rfl) (fun _ _ _ => rfl)
    (fun t => by rw [after0_5]; unfold Dat.blockOf blk0; rw [A_eq0]) t d).trans (by unfold Dat.fetched Dat.blockOf blk0; rw [A_eq0]; rfl)
/-- Window 6 holds its block before a step. -/
theorem before0_6 (c : Dev nD) (t : Fin cfg0.N) (d) : (dat0 V c).before 6 t d = blk0 V c 6 t :=
  ((dat0 V c).before_in_eq_fetched 6 rfl (fun _ => rfl) (fun _ _ _ => rfl)
    (fun t => by rw [after0_6]; unfold Dat.blockOf blk0; rw [A_eq0]) t d).trans (by unfold Dat.fetched Dat.blockOf blk0; rw [A_eq0]; rfl)
/-- Window 7 holds its block before a step. -/
theorem before0_7 (c : Dev nD) (t : Fin cfg0.N) (d) : (dat0 V c).before 7 t d = blk0 V c 7 t :=
  ((dat0 V c).before_in_eq_fetched 7 rfl (fun _ => rfl) (fun _ _ _ => rfl)
    (fun t => by rw [after0_7]; unfold Dat.blockOf blk0; rw [A_eq0]) t d).trans (by unfold Dat.fetched Dat.blockOf blk0; rw [A_eq0]; rfl)
/-- Window 8 holds its block before a step. -/
theorem before0_8 (c : Dev nD) (t : Fin cfg0.N) (d) : (dat0 V c).before 8 t d = blk0 V c 8 t :=
  ((dat0 V c).before_in_eq_fetched 8 rfl (fun _ => rfl) (fun _ _ _ => rfl)
    (fun t => by rw [after0_8]; unfold Dat.blockOf blk0; rw [A_eq0]) t d).trans (by unfold Dat.fetched Dat.blockOf blk0; rw [A_eq0]; rfl)
/-- Window 9 holds its block before a step. -/
theorem before0_9 (c : Dev nD) (t : Fin cfg0.N) (d) : (dat0 V c).before 9 t d = blk0 V c 9 t :=
  ((dat0 V c).before_in_eq_fetched 9 rfl (fun _ => rfl) (fun _ _ _ => rfl)
    (fun t => by rw [after0_9]; unfold Dat.blockOf blk0; rw [A_eq0]) t d).trans (by unfold Dat.fetched Dat.blockOf blk0; rw [A_eq0]; rfl)
/-- Window 10 holds its block before a step. -/
theorem before0_10 (c : Dev nD) (t : Fin cfg0.N) (d) : (dat0 V c).before 10 t d = blk0 V c 10 t :=
  ((dat0 V c).before_in_eq_fetched 10 rfl (fun _ => rfl) (fun _ _ _ => rfl)
    (fun t => by rw [after0_10]; unfold Dat.blockOf blk0; rw [A_eq0]) t d).trans (by unfold Dat.fetched Dat.blockOf blk0; rw [A_eq0]; rfl)
/-- Window 11 holds its block before a step. -/
theorem before0_11 (c : Dev nD) (t : Fin cfg0.N) (d) : (dat0 V c).before 11 t d = blk0 V c 11 t :=
  ((dat0 V c).before_in_eq_fetched 11 rfl (fun _ => rfl) (fun _ _ _ => rfl)
    (fun t => by rw [after0_11]; unfold Dat.blockOf blk0; rw [A_eq0]) t d).trans (by unfold Dat.fetched Dat.blockOf blk0; rw [A_eq0]; rfl)
/-- Window 12 holds its block before a step. -/
theorem before0_12 (c : Dev nD) (t : Fin cfg0.N) (d) : (dat0 V c).before 12 t d = blk0 V c 12 t :=
  ((dat0 V c).before_in_eq_fetched 12 rfl (fun _ => rfl) (fun _ _ _ => rfl)
    (fun t => by rw [after0_12]; unfold Dat.blockOf blk0; rw [A_eq0]) t d).trans (by unfold Dat.fetched Dat.blockOf blk0; rw [A_eq0]; rfl)
/-- Window 13 holds its block before a step. -/
theorem before0_13 (c : Dev nD) (t : Fin cfg0.N) (d) : (dat0 V c).before 13 t d = blk0 V c 13 t :=
  ((dat0 V c).before_in_eq_fetched 13 rfl (fun _ => rfl) (fun _ _ _ => rfl)
    (fun t => by rw [after0_13]; unfold Dat.blockOf blk0; rw [A_eq0]) t d).trans (by unfold Dat.fetched Dat.blockOf blk0; rw [A_eq0]; rfl)
/-- Window 14 holds its block before a step. -/
theorem before0_14 (c : Dev nD) (t : Fin cfg0.N) (d) : (dat0 V c).before 14 t d = blk0 V c 14 t :=
  ((dat0 V c).before_in_eq_fetched 14 rfl (fun _ => rfl) (fun _ _ _ => rfl)
    (fun t => by rw [after0_14]; unfold Dat.blockOf blk0; rw [A_eq0]) t d).trans (by unfold Dat.fetched Dat.blockOf blk0; rw [A_eq0]; rfl)
/-- Window 15 holds its block before a step. -/
theorem before0_15 (c : Dev nD) (t : Fin cfg0.N) (d) : (dat0 V c).before 15 t d = blk0 V c 15 t :=
  ((dat0 V c).before_in_eq_fetched 15 rfl (fun _ => rfl) (fun _ _ _ => rfl)
    (fun t => by rw [after0_15]; unfold Dat.blockOf blk0; rw [A_eq0]) t d).trans (by unfold Dat.fetched Dat.blockOf blk0; rw [A_eq0]; rfl)
/-- Window 16 holds its block before a step. -/
theorem before0_16 (c : Dev nD) (t : Fin cfg0.N) (d) : (dat0 V c).before 16 t d = blk0 V c 16 t :=
  ((dat0 V c).before_in_eq_fetched 16 rfl (fun _ => rfl) (fun _ _ _ => rfl)
    (fun t => by rw [after0_16]; unfold Dat.blockOf blk0; rw [A_eq0]) t d).trans (by unfold Dat.fetched Dat.blockOf blk0; rw [A_eq0]; rfl)
/-- Window 17 holds its block before a step. -/
theorem before0_17 (c : Dev nD) (t : Fin cfg0.N) (d) : (dat0 V c).before 17 t d = blk0 V c 17 t :=
  ((dat0 V c).before_in_eq_fetched 17 rfl (fun _ => rfl) (fun _ _ _ => rfl)
    (fun t => by rw [after0_17]; unfold Dat.blockOf blk0; rw [A_eq0]) t d).trans (by unfold Dat.fetched Dat.blockOf blk0; rw [A_eq0]; rfl)
/-- Window 18 holds its block before a step. -/
theorem before0_18 (c : Dev nD) (t : Fin cfg0.N) (d) : (dat0 V c).before 18 t d = blk0 V c 18 t :=
  ((dat0 V c).before_in_eq_fetched 18 rfl (fun _ => rfl) (fun _ _ _ => rfl)
    (fun t => by rw [after0_18]; unfold Dat.blockOf blk0; rw [A_eq0]) t d).trans (by unfold Dat.fetched Dat.blockOf blk0; rw [A_eq0]; rfl)
/-- Window 19 holds its block before a step. -/
theorem before0_19 (c : Dev nD) (t : Fin cfg0.N) (d) : (dat0 V c).before 19 t d = blk0 V c 19 t :=
  ((dat0 V c).before_in_eq_fetched 19 rfl (fun _ => rfl) (fun _ _ _ => rfl)
    (fun t => by rw [after0_19]; unfold Dat.blockOf blk0; rw [A_eq0]) t d).trans (by unfold Dat.fetched Dat.blockOf blk0; rw [A_eq0]; rfl)
/-- Window 20 holds its block before a step. -/
theorem before0_20 (c : Dev nD) (t : Fin cfg0.N) (d) : (dat0 V c).before 20 t d = blk0 V c 20 t :=
  ((dat0 V c).before_in_eq_fetched 20 rfl (fun _ => rfl) (fun _ _ _ => rfl)
    (fun t => by rw [after0_20]; unfold Dat.blockOf blk0; rw [A_eq0]) t d).trans (by unfold Dat.fetched Dat.blockOf blk0; rw [A_eq0]; rfl)
/-- Window 21 holds its block before a step. -/
theorem before0_21 (c : Dev nD) (t : Fin cfg0.N) (d) : (dat0 V c).before 21 t d = blk0 V c 21 t :=
  ((dat0 V c).before_in_eq_fetched 21 rfl (fun _ => rfl) (fun _ _ _ => rfl)
    (fun t => by rw [after0_21]; unfold Dat.blockOf blk0; rw [A_eq0]) t d).trans (by unfold Dat.fetched Dat.blockOf blk0; rw [A_eq0]; rfl)
/-- Window 22 holds its block before a step. -/
theorem before0_22 (c : Dev nD) (t : Fin cfg0.N) (d) : (dat0 V c).before 22 t d = blk0 V c 22 t :=
  ((dat0 V c).before_in_eq_fetched 22 rfl (fun _ => rfl) (fun _ _ _ => rfl)
    (fun t => by rw [after0_22]; unfold Dat.blockOf blk0; rw [A_eq0]) t d).trans (by unfold Dat.fetched Dat.blockOf blk0; rw [A_eq0]; rfl)
/-- Window 23 holds its block before a step. -/
theorem before0_23 (c : Dev nD) (t : Fin cfg0.N) (d) : (dat0 V c).before 23 t d = blk0 V c 23 t :=
  ((dat0 V c).before_in_eq_fetched 23 rfl (fun _ => rfl) (fun _ _ _ => rfl)
    (fun t => by rw [after0_23]; unfold Dat.blockOf blk0; rw [A_eq0]) t d).trans (by unfold Dat.fetched Dat.blockOf blk0; rw [A_eq0]; rfl)
/-- Window 24 holds its block before a step. -/
theorem before0_24 (c : Dev nD) (t : Fin cfg0.N) (d) : (dat0 V c).before 24 t d = blk0 V c 24 t :=
  ((dat0 V c).before_in_eq_fetched 24 rfl (fun _ => rfl) (fun _ _ _ => rfl)
    (fun t => by rw [after0_24]; unfold Dat.blockOf blk0; rw [A_eq0]) t d).trans (by unfold Dat.fetched Dat.blockOf blk0; rw [A_eq0]; rfl)
/-- Window 25 holds its block before a step. -/
theorem before0_25 (c : Dev nD) (t : Fin cfg0.N) (d) : (dat0 V c).before 25 t d = blk0 V c 25 t :=
  ((dat0 V c).before_in_eq_fetched 25 rfl (fun _ => rfl) (fun _ _ _ => rfl)
    (fun t => by rw [after0_25]; unfold Dat.blockOf blk0; rw [A_eq0]) t d).trans (by unfold Dat.fetched Dat.blockOf blk0; rw [A_eq0]; rfl)

/-! ## The window that is written once -/

/-- The body computes the gate at the first point and at no other. -/
theorem cond_iff : ∀ t : Fin grid0.N, k0_cond1 (grid0.coords t) = 1#1 ↔ t.val = 0 := by decide +kernel

/-- The gate's buffer is a fresh one at the first point alone. -/
theorem fresh26 : ∀ t : Fin cfg0.N, cfg0.fresh 26 t.val = decide (t.val = 0) := by decide +kernel

/-- At a later point the gate's buffer holds the gate. -/
theorem before0_26 (c : Dev nD) (t : Fin cfg0.N) (ht : t.val ≠ 0) (d) : (dat0 V c).before 26 t d = gate0 V c := by
  rw [(dat0 V c).before_out_traj 26 rfl (fun _ _ => rfl)
    (fun t _ _ _ => by simp only [after0_26]) t.val t rfl d, fresh26, if_neg (by simpa using ht), after0_26]

/-- What the pipeline asks of the gate's buffer after the body at point `t`. -/
def held26 (c : Dev nD) (t : Fin cfg0.N) : sProp 𝕄 :=
  match cfg0.idle 26 (cfg0.grid.coords t) with
  | true => match (cfg0.win 26).flush t with
    | false => iprop(∃ d, owns (c : Thread nD τ) (st0_26 t) fullShare ((dat0 V c).before 26 t d))
    | true => owns (c : Thread nD τ) (st0_26 t) fullShare ((dat0 V c).after 26 t)
  | false => owns (c : Thread nD τ) (st0_26 t) fullShare ((dat0 V c).after 26 t)

/-- The first point writes the gate's buffer. -/
theorem idle26 : ∀ t : Fin grid0.N, cfg0.idle 26 (grid0.coords t) = true → t.val ≠ 0 := by decide +kernel

/-- Holding the gate is enough at every point. -/
theorem held26_of (c : Dev nD) (t : Fin cfg0.N) :
    owns (c : Thread nD τ) (st0_26 t) fullShare (gate0 V c) ⊢ held26 V c t := by
  unfold held26
  split
  · rename_i hi
    split
    · iintro H
      iexists gate0 V c
      rw [before0_26 V c t (idle26 t hi)]
      iexact H
    · rw [after0_26]
  · rw [after0_26]

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d))
    ∗ (∃ d, owns (c : Thread nD τ) (st0_27 t) fullShare ((dat0 V c).before 27 t d))
    ∗ (∃ d, owns (c : Thread nD τ) (st0_28 t) fullShare ((dat0 V c).before 28 t d))
    ∗ (∃ d, owns (c : Thread nD τ) (st0_29 t) fullShare ((dat0 V c).before 29 t d))
    ∗ (∃ d, owns (c : Thread nD τ) (st0_30 t) fullShare ((dat0 V c).before 30 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ held26 V c t
    ∗ owns (c : Thread nD τ) (st0_27 t) fullShare ((dat0 V c).after 27 t)
    ∗ owns (c : Thread nD τ) (st0_28 t) fullShare ((dat0 V c).after 28 t)
    ∗ owns (c : Thread nD τ) (st0_29 t) fullShare ((dat0 V c).after 29 t)
    ∗ owns (c : Thread nD τ) (st0_30 t) fullShare ((dat0 V c).after 30 t))

/-- The gate's inputs are the same at every point, so at the first one the body leaves the gate. -/
theorem gate0_of (c : Dev nD) (t : Fin cfg0.N) (ht : t.val = 0) :
    alphaOf (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (blk0 V c 15 t) (blk0 V c 16 t) (blk0 V c 17 t) (blk0 V c 18 t) = gate0 V c := by
  obtain rfl : t = start0 := Fin.ext ht
  rfl

set_option maxHeartbeats 1000000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  by_cases ht : t.val = 0
  · iapply (body_first c Set.univ (grid0.coords t) ((cond_iff t).2 ht) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (blk0 V c 15 t) (blk0 V c 16 t) (blk0 V c 17 t) (blk0 V c 18 t) (blk0 V c 19 t) (blk0 V c 20 t) (blk0 V c 21 t) (blk0 V c 22 t) (blk0 V c 23 t) (blk0 V c 24 t) (blk0 V c 25 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexists _; iexact H26
    isplitl [H27]; · iexists _; iexact H27
    isplitl [H28]; · iexists _; iexact H28
    isplitl [H29]; · iexists _; iexact H29
    isplitl [H30]; · iexists _; iexact H30
    iintro ⟨H0, H1, H2, H3, H4, H5, H6, H7, H8, H9, H10, H11, H12, H13, H14, H15, H16, H17, H18, H19, H20, H21, H22, H23, H24, H25, H26, H27, H28, H29, H30⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iapply (held26_of V c t); rw [← gate0_of V c t ht]; iexact H26
    isplitl [H27]; · iexact H27
    isplitl [H28]; · iexact H28
    isplitl [H29]; · iexact H29
    iexact H30
  · rw [before0_26 V c t ht]
    iapply (body_later c Set.univ (grid0.coords t) (fun h => ht ((cond_iff t).1 h)) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (blk0 V c 15 t) (blk0 V c 16 t) (blk0 V c 17 t) (blk0 V c 18 t) (blk0 V c 19 t) (blk0 V c 20 t) (blk0 V c 21 t) (blk0 V c 22 t) (blk0 V c 23 t) (blk0 V c 24 t) (blk0 V c 25 t) (gate0 V c) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexists _; iexact H27
    isplitl [H28]; · iexists _; iexact H28
    isplitl [H29]; · iexists _; iexact H29
    isplitl [H30]; · iexists _; iexact H30
    iintro ⟨H0, H1, H2, H3, H4, H5, H6, H7, H8, H9, H10, H11, H12, H13, H14, H15, H16, H17, H18, H19, H20, H21, H22, H23, H24, H25, H26, H27, H28, H29, H30⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iapply (held26_of V c t); iexact H26
    isplitl [H27]; · iexact H27
    isplitl [H28]; · iexact H28
    isplitl [H29]; · iexact H29
    iexact H30

/-- The row of the body table at the slots of point `t` is the body. -/
theorem defs₀_row0 (t : Fin cfg0.N) :
    defs₀ (F := F) .tc cfg0.body (cfg0.bodyArgs t (cfg0.slots t)) = bodyAt0 t := by
  unfold defs₀; rw [Defs.onTc_tc]

set_option maxHeartbeats 4000000 in
/-- The obligation of the pipeline, at every point. -/
theorem body_obligation0 (c : Dev nD) : BodyObligation (dat0 (F := F) V c) (defs₀ (F := F)) Variants.none () Set.univ := fun t => by
  rw [bigSep_W0, bigSep_W0, defs₀_row0]
  refine triple_restated (sound_body0 V c t) rfl .rfl fun _ => ?_
  unfold bodyPost0
  refine sep_mono .rfl (sep_mono .rfl ?_)
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono .rfl ?_
  refine sep_mono ?_ (sep_mono .rfl (sep_mono .rfl (sep_mono .rfl .rfl)))
  beta_reduce
  unfold held26
  cases h : cfg0.idle 26 (cfg0.grid.coords t)
  · exact .rfl
  · cases h' : (cfg0.win 26).flush t
    · exact .rfl
    · exact .rfl

end Data

end Cert.KernelIdeal.Gate
-- ==== Proof.KernelIdeal.Mlp.lean ====
/- The second region of the program, the network kernel: its body computes one batch row's 2048 tokens in four blocks
   of 512. What the body leaves in the output window, that the body runs, and the obligation the pipeline asks of it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The accesses of the body -/

/-- The first lane of the gate. -/
abbrev lane0 : Rect S1x1x128 := Rect.unit (s := S1x1x128) ![0, 0, 0] S1x1x1.size inb_S1x1x128_S1x1x1_0_0_0
/-- The whole of a buffer of this shape. -/
abbrev allS1x1x2048 : Rect S1x1x2048 := Rect.unit (s := S1x1x2048) ![0, 0, 0] S1x1x2048.size inb_S1x1x2048_S1x1x2048_0_0_0
/-- The whole of a buffer of this shape. -/
abbrev allS1x1024 : Rect S1x1024 := Rect.unit (s := S1x1024) ![0, 0] S1x1024.size inb_S1x1024_S1x1024_0_0
/-- The whole of a buffer of this shape. -/
abbrev allS2048x1024 : Rect S2048x1024 := Rect.unit (s := S2048x1024) ![0, 0] S2048x1024.size inb_S2048x1024_S2048x1024_0_0
/-- The whole of a buffer of this shape. -/
abbrev allS2048x32 : Rect S2048x32 := Rect.unit (s := S2048x32) ![0, 0] S2048x32.size inb_S2048x32_S2048x32_0_0
/-- The whole of a buffer of this shape. -/
abbrev allS1024x2048 : Rect S1024x2048 := Rect.unit (s := S1024x2048) ![0, 0] S1024x2048.size inb_S1024x2048_S1024x2048_0_0
/-- Token rows 0 to 511 of the hidden states, or of the output. -/
abbrev rows0 : Rect S1x2048x1024 := Rect.unit (s := S1x2048x1024) ![0, 0, 0] S1x512x1024.size inb_S1x2048x1024_S1x512x1024_0_0_0
/-- Token rows 0 to 511 of the time features. -/
abbrev times0 : Rect S1x2048x32 := Rect.unit (s := S1x2048x32) ![0, 0, 0] S1x512x32.size inb_S1x2048x32_S1x512x32_0_0_0
/-- Token rows 512 to 1023 of the hidden states, or of the output. -/
abbrev rows1 : Rect S1x2048x1024 := Rect.unit (s := S1x2048x1024) ![0, 512, 0] S1x512x1024.size inb_S1x2048x1024_S1x512x1024_0_512_0
/-- Token rows 512 to 1023 of the time features. -/
abbrev times1 : Rect S1x2048x32 := Rect.unit (s := S1x2048x32) ![0, 512, 0] S1x512x32.size inb_S1x2048x32_S1x512x32_0_512_0
/-- Token rows 1024 to 1535 of the hidden states, or of the output. -/
abbrev rows2 : Rect S1x2048x1024 := Rect.unit (s := S1x2048x1024) ![0, 1024, 0] S1x512x1024.size inb_S1x2048x1024_S1x512x1024_0_1024_0
/-- Token rows 1024 to 1535 of the time features. -/
abbrev times2 : Rect S1x2048x32 := Rect.unit (s := S1x2048x32) ![0, 1024, 0] S1x512x32.size inb_S1x2048x32_S1x512x32_0_1024_0
/-- Token rows 1536 to 2047 of the hidden states, or of the output. -/
abbrev rows3 : Rect S1x2048x1024 := Rect.unit (s := S1x2048x1024) ![0, 1536, 0] S1x512x1024.size inb_S1x2048x1024_S1x512x1024_0_1536_0
/-- Token rows 1536 to 2047 of the time features. -/
abbrev times3 : Rect S1x2048x32 := Rect.unit (s := S1x2048x32) ![0, 1536, 0] S1x512x32.size inb_S1x2048x32_S1x512x32_0_1536_0

/-! ## What the body computes, block of tokens by block of tokens

The body is written out four times, each time cut differently into intermediate values; each definition follows its cut. -/

/-- Tokens 0 to 511. -/
def tokens0 (x0 : Vec F S1x2048x1024 .f32) (x1 : Vec F S1x2048x32 .f32) (x2 : Vec F S1x1x128 .f32) (x3 : Vec F S1x1x2048 .f32) (x4 : Vec F S2048x1024 .bf16) (x5 : Vec F S2048x32 .bf16) (x6 : Vec F S1024x2048 .bf16) (x7 : Vec F S1x1024 .f32) (x8 : Vec F S1x1024 .f32) (x9 : Vec F S1x1024 .f32) : FVec F S1x512x1024 .f32 :=
  let g := k1_pay4 (View.ld x2 lane0) (View.ld x8 allS1x1024)
  let b := k1_pay5 (View.ld x2 lane0) (View.ld x9 allS1x1024)
  k1_pay11 g b (k1_pay6 (View.ld x0 rows0))
    (k1_pay8 (View.ld x3 allS1x1x2048) (View.ld x0 rows0) (View.ld x4 allS2048x1024) (View.ld x1 times0) (View.ld x5 allS2048x32))
    (k1_pay9 (View.ld x3 allS1x1x2048) (View.ld x0 rows0) (View.ld x4 allS2048x1024) (View.ld x1 times0) (View.ld x5 allS2048x32))
    (k1_pay10 (F := F)) (View.ld x6 allS1024x2048) (View.ld x7 allS1x1024)

/-- Tokens 512 to 1023. -/
def tokens1 (x0 : Vec F S1x2048x1024 .f32) (x1 : Vec F S1x2048x32 .f32) (x2 : Vec F S1x1x128 .f32) (x3 : Vec F S1x1x2048 .f32) (x4 : Vec F S2048x1024 .bf16) (x5 : Vec F S2048x32 .bf16) (x6 : Vec F S1024x2048 .bf16) (x7 : Vec F S1x1024 .f32) (x8 : Vec F S1x1024 .f32) (x9 : Vec F S1x1024 .f32) : FVec F S1x512x1024 .f32 :=
  let h := k1_pay2 (View.ld x3 allS1x1x2048)
  let g := k1_pay4 (View.ld x2 lane0) (View.ld x8 allS1x1024)
  let b := k1_pay5 (View.ld x2 lane0) (View.ld x9 allS1x1024)
  let t := k1_pay13 (View.ld x0 rows1)
  let u := k1_pay14 (View.ld x4 allS2048x1024)
  k1_pay18 g b (k1_pay12 (View.ld x0 rows1))
    (k1_pay15 h t u (View.ld x1 times1) (View.ld x5 allS2048x32) (View.ld x6 allS1024x2048) (View.ld x7 allS1x1024))
    (k1_pay16 h t u (View.ld x1 times1) (View.ld x5 allS2048x32) (View.ld x6 allS1024x2048) (View.ld x7 allS1x1024))
    (k1_pay17 h t u (View.ld x1 times1) (View.ld x5 allS2048x32) (View.ld x6 allS1024x2048) (View.ld x7 allS1x1024))

/-- Tokens 1024 to 1535. -/
def tokens2 (x0 : Vec F S1x2048x1024 .f32) (x1 : Vec F S1x2048x32 .f32) (x2 : Vec F S1x1x128 .f32) (x3 : Vec F S1x1x2048 .f32) (x4 : Vec F S2048x1024 .bf16) (x5 : Vec F S2048x32 .bf16) (x6 : Vec F S1024x2048 .bf16) (x7 : Vec F S1x1024 .f32) (x8 : Vec F S1x1024 .f32) (x9 : Vec F S1x1024 .f32) : FVec F S1x512x1024 .f32 :=
  let h := k1_pay2 (View.ld x3 allS1x1x2048)
  let g := k1_pay4 (View.ld x2 lane0) (View.ld x8 allS1x1024)
  let b := k1_pay5 (View.ld x2 lane0) (View.ld x9 allS1x1024)
  k1_pay22 g b (k1_pay19 (View.ld x0 rows2))
    (k1_pay20 h (View.ld x0 rows2) (View.ld x4 allS2048x1024) (View.ld x1 times2) (View.ld x5 allS2048x32))
    (k1_pay21 (View.ld x6 allS1024x2048)) (constant S512x1024 .f32 0x00000000#32) (View.ld x7 allS1x1024)

/-- Tokens 1536 to 2047. -/
def tokens3 (x0 : Vec F S1x2048x1024 .f32) (x1 : Vec F S1x2048x32 .f32) (x2 : Vec F S1x1x128 .f32) (x3 : Vec F S1x1x2048 .f32) (x4 : Vec F S2048x1024 .bf16) (x5 : Vec F S2048x32 .bf16) (x6 : Vec F S1024x2048 .bf16) (x7 : Vec F S1x1024 .f32) (x8 : Vec F S1x1024 .f32) (x9 : Vec F S1x1024 .f32) : FVec F S1x512x1024 .f32 :=
  let h := k1_pay2 (View.ld x3 allS1x1x2048)
  let g := k1_pay4 (View.ld x2 lane0) (View.ld x8 allS1x1024)
  let b := k1_pay5 (View.ld x2 lane0) (View.ld x9 allS1x1024)
  k1_pay1 (k1_pay26 h g (k1_pay23 (View.ld x0 rows3)) (k1_pay24 (View.ld x0 rows3) (View.ld x4 allS2048x1024))
    (k1_pay25 (View.ld x1 times3)) (View.ld x5 allS2048x32) (View.ld x6 allS1024x2048) (View.ld x7 allS1x1024)) (k1_pay27 b)

/-- One batch row of the result: the four blocks of tokens, in place. -/
def rowOf (x0 : Vec F S1x2048x1024 .f32) (x1 : Vec F S1x2048x32 .f32) (x2 : Vec F S1x1x128 .f32) (x3 : Vec F S1x1x2048 .f32) (x4 : Vec F S2048x1024 .bf16) (x5 : Vec F S2048x32 .bf16) (x6 : Vec F S1024x2048 .bf16) (x7 : Vec F S1x1024 .f32) (x8 : Vec F S1x1024 .f32) (x9 : Vec F S1x1024 .f32) : Vec F S1x2048x1024 .f32 :=
  View.canon [⟨rows3, tokens3 x0 x1 x2 x3 x4 x5 x6 x7 x8 x9⟩, ⟨rows2, tokens2 x0 x1 x2 x3 x4 x5 x6 x7 x8 x9⟩, ⟨rows1, tokens1 x0 x1 x2 x3 x4 x5 x6 x7 x8 x9⟩, ⟨rows0, tokens0 x0 x1 x2 x3 x4 x5 x6 x7 x8 x9⟩]

/-- The four blocks cover the output's buffer. -/
theorem cover_row (p0 p1 p2 p3 : Vec F S1x512x1024 .f32) (y : S1x2048x1024.Idx) :
    ∃ pc ∈ ([⟨rows3, p0⟩, ⟨rows2, p1⟩, ⟨rows1, p2⟩, ⟨rows0, p3⟩] : List (View.Piece (Elt F) S1x2048x1024 .f32)), y ∈ pc.1.set :=
  View.cover_of_tiled [⟨rows3, p0⟩, ⟨rows2, p1⟩, ⟨rows1, p2⟩, ⟨rows0, p3⟩] S1x512x1024.size (by rfl) y

/-! ## The body runs -/

set_option maxHeartbeats 2000000 in
/-- The body, on the ten input buffers at contents `x0` … `x9` and the output's at anything, leaves the inputs as they
    were and the batch row's result in the output's buffer. -/
theorem body_runs (c : Dev nD) (E : Set ℕ) (i : grid1.Coords) (arg2 : Memref sig .tc .vmem S1x2048x1024 .f32) (harg2 : arg2.IsWhole) (arg3 : Memref sig .tc .vmem S1x2048x32 .f32) (harg3 : arg3.IsWhole) (arg4 : Memref sig .tc .vmem S1x1x128 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S2048x32 .bf16) (harg7 : arg7.IsWhole) (arg8 : Memref sig .tc .vmem S1024x2048 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x2048x1024 .f32) (harg12 : arg12.IsWhole)
    (x0 : Vec F S1x2048x1024 .f32) (x1 : Vec F S1x2048x32 .f32) (x2 : Vec F S1x1x128 .f32) (x3 : Vec F S1x1x2048 .f32) (x4 : Vec F S2048x1024 .bf16) (x5 : Vec F S2048x32 .bf16) (x6 : Vec F S1024x2048 .bf16) (x7 : Vec F S1x1024 .f32) (x8 : Vec F S1x1024 .f32) (x9 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (rowOf x0 x1 x2 x3 x4 x5 x6 x7 x8 x9)) -∗ K ⟨⟩))
      ⊢ wp frame (wpE (defs₀ (F := F)) Variants.none c none) E (cc1__mlp_kernel i arg2 harg2 arg3 harg3 arg4 harg4 arg5 harg5 arg6 harg6 arg7 harg7 arg8 harg8 arg9 harg9 arg10 harg10 arg11 harg11 arg12 harg12) K := by
  simp only [cc1__mlp_kernel_eq_skeleton]; unfold cc1__mlp_kernel_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ (cover_row _ _ _ _)).trans ?_
  rfl

/-! ## The pipeline's data, at the buffer contents `V` the region is entered with -/

section Data
variable (V : (c : Dev nD) → (b : Ref sig .tc) → Buf (Elt F) ((c : Thread nD τ).loc b))

/-- The block of window `w` at grid point `t`, as its array stands when the region is entered. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of this pipeline: inputs stay at their blocks, the output's buffer holds the batch row's result. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => rowOf (blk1 V c 0 t) (blk1 V c 1 t) (blk1 V c 2 t) (blk1 V c 3 t) (blk1 V c 4 t) (blk1 V c 5 t) (blk1 V c 6 t) (blk1 V c 7 t) (blk1 V c 8 t) (blk1 V c 9 t)
    | ⟨_ + 11, h⟩ => absurd h (Nat.not_lt.2 (Nat.le_add_left _ _))
  Φ _ := Pipeline.ΦA spec1 c
  q _ := fullShare
  owed _ := 0

/-- The arrays of the proof data are the contents at entry. -/
theorem A_eq1 (c : Dev nD) (w : Fin cfg1.W) : (dat1 V c).A w = V c (Pipeline.arrRef spec1 w) := by
  dsimp only [dat1]

/-! What each window's buffer holds after the body. -/

/-- What window 0 holds after a step. -/
theorem after1_0 (c : Dev nD) (t : Fin cfg1.N) : (dat1 V c).after 0 t = blk1 V c 0 t := by dsimp only [dat1]
/-- What window 1 holds after a step. -/
theorem after1_1 (c : Dev nD) (t : Fin cfg1.N) : (dat1 V c).after 1 t = blk1 V c 1 t := by dsimp only [dat1]
/-- What window 2 holds after a step. -/
theorem after1_2 (c : Dev nD) (t : Fin cfg1.N) : (dat1 V c).after 2 t = blk1 V c 2 t := by dsimp only [dat1]
/-- What window 3 holds after a step. -/
theorem after1_3 (c : Dev nD) (t : Fin cfg1.N) : (dat1 V c).after 3 t = blk1 V c 3 t := by dsimp only [dat1]
/-- What window 4 holds after a step. -/
theorem after1_4 (c : Dev nD) (t : Fin cfg1.N) : (dat1 V c).after 4 t = blk1 V c 4 t := by dsimp only [dat1]
/-- What window 5 holds after a step. -/
theorem after1_5 (c : Dev nD) (t : Fin cfg1.N) : (dat1 V c).after 5 t = blk1 V c 5 t := by dsimp only [dat1]
/-- What window 6 holds after a step. -/
theorem after1_6 (c : Dev nD) (t : Fin cfg1.N) : (dat1 V c).after 6 t = blk1 V c 6 t := by dsimp only [dat1]
/-- What window 7 holds after a step. -/
theorem after1_7 (c : Dev nD) (t : Fin cfg1.N) : (dat1 V c).after 7 t = blk1 V c 7 t := by dsimp only [dat1]
/-- What window 8 holds after a step. -/
theorem after1_8 (c : Dev nD) (t : Fin cfg1.N) : (dat1 V c).after 8 t = blk1 V c 8 t := by dsimp only [dat1]
/-- What window 9 holds after a step. -/
theorem after1_9 (c : Dev nD) (t : Fin cfg1.N) : (dat1 V c).after 9 t = blk1 V c 9 t := by dsimp only [dat1]
/-- What window 10 holds after a step. -/
theorem after1_10 (c : Dev nD) (t : Fin cfg1.N) : (dat1 V c).after 10 t = rowOf (blk1 V c 0 t) (blk1 V c 1 t) (blk1 V c 2 t) (blk1 V c 3 t) (blk1 V c 4 t) (blk1 V c 5 t) (blk1 V c 6 t) (blk1 V c 7 t) (blk1 V c 8 t) (blk1 V c 9 t) := by dsimp only [dat1]

/-! What each input window's buffer holds before the body: its block, whether or not it was fetched at this point. -/

/-- Window 0 holds its block before a step. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans (by unfold Dat.fetched Dat.blockOf blk1; rw [A_eq1]; try rfl)
/-- Window 1 holds its block before a step. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans (by unfold Dat.fetched Dat.blockOf blk1; rw [A_eq1]; try rfl)
/-- Window 2 holds its block before a step. -/
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans (by unfold Dat.fetched Dat.blockOf blk1; rw [A_eq1]; try rfl)
/-- Window 3 holds its block before a step. -/
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [A_eq1]; try rfl) t d).trans (by unfold Dat.fetched Dat.blockOf blk1; rw [A_eq1]; try rfl)
/-- Window 4 holds its block before a step. -/
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [A_eq1]; try rfl) t d).trans (by unfold Dat.fetched Dat.blockOf blk1; rw [A_eq1]; try rfl)
/-- Window 5 holds its block before a step. -/
theorem before1_5 (c : Dev nD) (t : Fin cfg1.N) (d) : (dat1 V c).before 5 t d = blk1 V c 5 t :=
  ((dat1 V c).before_in_eq_fetched 5 rfl (fun _ => rfl) (fun _ _ _ => rfl)
    (fun t => by rw [after1_5]; unfold Dat.blockOf blk1; rw [A_eq1]; try rfl) t d).trans (by unfold Dat.fetched Dat.blockOf blk1; rw [A_eq1]; try rfl)
/-- Window 6 holds its block before a step. -/
theorem before1_6 (c : Dev nD) (t : Fin cfg1.N) (d) : (dat1 V c).before 6 t d = blk1 V c 6 t :=
  ((dat1 V c).before_in_eq_fetched 6 rfl (fun _ => rfl) (fun _ _ _ => rfl)
    (fun t => by rw [after1_6]; unfold Dat.blockOf blk1; rw [A_eq1]; try rfl) t d).trans (by unfold Dat.fetched Dat.blockOf blk1; rw [A_eq1]; try rfl)
/-- Window 7 holds its block before a step. -/
theorem before1_7 (c : Dev nD) (t : Fin cfg1.N) (d) : (dat1 V c).before 7 t d = blk1 V c 7 t :=
  ((dat1 V c).before_in_eq_fetched 7 rfl (fun _ => rfl) (fun _ _ _ => rfl)
    (fun t => by rw [after1_7]; unfold Dat.blockOf blk1; rw [A_eq1]; try rfl) t d).trans (by unfold Dat.fetched Dat.blockOf blk1; rw [A_eq1]; try rfl)
/-- Window 8 holds its block before a step. -/
theorem before1_8 (c : Dev nD) (t : Fin cfg1.N) (d) : (dat1 V c).before 8 t d = blk1 V c 8 t :=
  ((dat1 V c).before_in_eq_fetched 8 rfl (fun _ => rfl) (fun _ _ _ => rfl)
    (fun t => by rw [after1_8]; unfold Dat.blockOf blk1; rw [A_eq1]; try rfl) t d).trans (by unfold Dat.fetched Dat.blockOf blk1; rw [A_eq1]; try rfl)
/-- Window 9 holds its block before a step. -/
theorem before1_9 (c : Dev nD) (t : Fin cfg1.N) (d) : (dat1 V c).before 9 t d = blk1 V c 9 t :=
  ((dat1 V c).before_in_eq_fetched 9 rfl (fun _ => rfl) (fun _ _ _ => rfl)
    (fun t => by rw [after1_9]; unfold Dat.blockOf blk1; rw [A_eq1]; try rfl) t d).trans (by unfold Dat.fetched Dat.blockOf blk1; rw [A_eq1]; try rfl)

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_runs c Set.univ (grid1.coords t) _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The row of the body table at the slots of point `t` is the body. -/
theorem defs₀_row1 (t : Fin cfg1.N) :
    defs₀ (F := F) .tc cfg1.body (cfg1.bodyArgs t (cfg1.slots t)) = bodyAt1 t := by
  unfold defs₀; rw [Defs.onTc_tc]

/-- The obligation of the pipeline, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Data

end Cert.KernelIdeal.Mlp
-- ==== Proof.KernelIdeal.Run.lean ====
/- The whole program as a run: host operations, the gate kernel, host operations, the network kernel. What every buffer
   holds at each of the four boundaries, that the program ends with its arguments as they were, every counter at zero and
   every buffer at the last boundary's contents. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Gate
public import proofs.«01_k».proof.Proof.KernelIdeal.Mlp
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Gate Cert.KernelIdeal.Mlp

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27]

/-! ## The two stretches of host operations -/

/-- No host operation of stretch 0 allocates. -/
theorem fresh0 : (hostOps0 : List (HloOp τ sig (Elt F))).Forall fun op => op.fresh = ∅ := by
  simp only [List.Forall]; repeat' constructor

/-- What the operations of stretch 0 write, in order. -/
abbrev written0 : List (Ref sig .tc) := [main_v0, main_v1, main_v2, main_v3, main_v4, main_v5, main_v6, main_v7, main_v8, main_v9, main_v10, main_v11, main_v12, main_v13, main_v14, main_v15, main_v16]

/-- The operations of stretch 0 write nothing else. -/
theorem writes0 : (hostOps0 : List (HloOp τ sig (Elt F))).Forall fun op => op.writes ⊆ (written0.map (Proc.devRef (τ := τ) .tc)).toFinset :=
  StableHlo.forall_writes_sub_of_map rfl

/-- Stretch 0 writes no argument. -/
theorem spares0 : ∀ a ∈ argRefs, a ∉ written0 := ListAll.forall_mem_of_all_decide (by decide +kernel)

/-- No host operation of stretch 1 allocates. -/
theorem fresh1 : (hostOps1 : List (HloOp τ sig (Elt F))).Forall fun op => op.fresh = ∅ := by
  simp only [List.Forall]; repeat' constructor

/-- What the operations of stretch 1 write, in order. -/
abbrev written1 : List (Ref sig .tc) := [main_v18, main_v19, main_v20, main_v21, main_v22]

/-- The operations of stretch 1 write nothing else. -/
theorem writes1 : (hostOps1 : List (HloOp τ sig (Elt F))).Forall fun op => op.writes ⊆ (written1.map (Proc.devRef (τ := τ) .tc)).toFinset :=
  StableHlo.forall_writes_sub_of_map rfl

/-- Stretch 1 writes no argument. -/
theorem spares1 : ∀ a ∈ argRefs, a ∉ written1 := ListAll.forall_mem_of_all_decide (by decide +kernel)

/-! ## The contents of the buffers at the boundaries -/

/-- At the launch. -/
abbrev W0 : Dev nD → Valuation τ sig (Elt F) := fun c b => (s₀ m ρ).mem ((c : Dev nD), b)

/-- When region 0 is entered. -/
abbrev W1 : Dev nD → Valuation τ sig (Elt F) := fun c => StableHlo.after hostOps0 (W0 m ρ c)
/-- The same contents, read by a buffer's name. -/
abbrev V1 : (c : Dev nD) → (b : Ref sig .tc) → Buf (Elt F) ((c : Thread nD τ).loc b) := fun c b => W1 m ρ c b

/-- What the host stretch does not write it leaves alone. -/
theorem W1_of (c : Dev nD) (r : Ref sig .tc) (h : r ∉ written0) : W1 m ρ c (Proc.devRef .tc r) = W0 m ρ c (Proc.devRef .tc r) :=
  StableHlo.after_of_writes_sub hostOps0 _ writes0 h

/-- When region 0 is left: its arrays at what the pipeline made of them, all else as it was. -/
def W2 (c : Dev nD) : Valuation τ sig (Elt F) :=
  Pipeline.withArrays spec0 c (W1 m ρ c) fun w => (dat0 (V1 m ρ) c).arrAt w cfg0.N
/-- The same contents, read by a buffer's name. -/
abbrev V2 : (c : Dev nD) → (b : Ref sig .tc) → Buf (Elt F) ((c : Thread nD τ).loc b) := fun c b => W2 m ρ c b

/-- The arrays of region 0 hold what the pipeline made of them. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

/-- A buffer that is no array of region 0 is left alone by it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- A buffer that is no output array of region 0 is left alone by it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

/-- The arguments are no outputs of region 0. -/
theorem argsIn0 : ∀ a ∈ argRefs, ∀ w : Fin cfg0.W, Pipeline.arrRef spec0 w = a → (cfg0.win w).isOut = false :=
  ListAll.forall_mem_of_all_decide (by decide +kernel)

/-- What region 0 leaves in its arrays. -/
theorem leaves0 (c : Dev nD) (w : Fin cfg0.W) : (dat0 (V1 m ρ) c).arrAt w cfg0.N = V2 m ρ c (Pipeline.arrRef spec0 w) :=
  (W2_arr m ρ c w).symm
/-- What region 0 keeps. -/
theorem keeps0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- When region 1 is entered. -/
abbrev W3 : Dev nD → Valuation τ sig (Elt F) := fun c => StableHlo.after hostOps1 (W2 m ρ c)
/-- The same contents, read by a buffer's name. -/
abbrev V3 : (c : Dev nD) → (b : Ref sig .tc) → Buf (Elt F) ((c : Thread nD τ).loc b) := fun c b => W3 m ρ c b

/-- What the host stretch does not write it leaves alone. -/
theorem W3_of (c : Dev nD) (r : Ref sig .tc) (h : r ∉ written1) : W3 m ρ c (Proc.devRef .tc r) = W2 m ρ c (Proc.devRef .tc r) :=
  StableHlo.after_of_writes_sub hostOps1 _ writes1 h

/-- When region 1 is left: its arrays at what the pipeline made of them, all else as it was. -/
def W4 (c : Dev nD) : Valuation τ sig (Elt F) :=
  Pipeline.withArrays spec1 c (W3 m ρ c) fun w => (dat1 (V3 m ρ) c).arrAt w cfg1.N
/-- The same contents, read by a buffer's name. -/
abbrev V4 : (c : Dev nD) → (b : Ref sig .tc) → Buf (Elt F) ((c : Thread nD τ).loc b) := fun c b => W4 m ρ c b

/-- The arrays of region 1 hold what the pipeline made of them. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w

/-- A buffer that is no array of region 1 is left alone by it. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- A buffer that is no output array of region 1 is left alone by it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩

/-- The arguments are no outputs of region 1. -/
theorem argsIn1 : ∀ a ∈ argRefs, ∀ w : Fin cfg1.W, Pipeline.arrRef spec1 w = a → (cfg1.win w).isOut = false :=
  ListAll.forall_mem_of_all_decide (by decide +kernel)

/-- What region 1 leaves in its arrays. -/
theorem leaves1 (c : Dev nD) (w : Fin cfg1.W) : (dat1 (V3 m ρ) c).arrAt w cfg1.N = V4 m ρ c (Pipeline.arrRef spec1 w) :=
  (W4_arr m ρ c w).symm
/-- What region 1 keeps. -/
theorem keeps1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! The arguments are what they were at every boundary. -/

/-- The arguments are as they were, at boundary 1. -/
theorem W1_args (c : Dev nD) : ∀ a ∈ argRefs, W1 m ρ c (Proc.devRef .tc a) = m ((c : Thread nD τ).loc a) :=
  fun a ha => W1_of m ρ c a (spares0 a ha)
/-- The arguments are as they were, at boundary 2. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The arguments are as they were, at boundary 3. -/
theorem W3_args (c : Dev nD) : ∀ a ∈ argRefs, W3 m ρ c (Proc.devRef .tc a) = m ((c : Thread nD τ).loc a) :=
  fun a ha => (W3_of m ρ c a (spares1 a ha)).trans (W2_args m ρ c a ha)
/-- The arguments are as they were, at boundary 4. -/
theorem W4_args (c : Dev nD) : ∀ a ∈ argRefs, W4 m ρ c (Proc.devRef .tc a) = m ((c : Thread nD τ).loc a) :=
  fun a ha => (W4_of m ρ c a (argsIn1 a ha)).trans (W3_args m ρ c a ha)

/-! ## The launch -/

/-- No pipeline prefetches a table. -/
abbrev adm : (p : Fin 2) → (pcfgs (F := F) p).Adm := fun p => (cfgs p).toPCfg_adm
/-- Each pipeline with its proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No loop variants, and no core owes another anything. -/
abbrev 𝒱₀ : Variants := Variants.none
/-- No signal is in use. -/
abbrev L : GSem nD τ sig → Finset Unit := fun _ => ∅
/-- No level is in use. -/
abbrev lv : GSem nD τ sig → Unit → ℕ := fun _ _ => 0
/-- What goes through every segment untouched: the random generator and the empty debt. -/
abbrev R (c : Dev nD) : sProp 𝕄 := iprop((∃ r, prngReg c r) ∗ ∃ W, owes (c : Thread nD τ) (0 : CellTallies nD τ sig Unit) W)
/-- A host stretch as a segment of the run. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that outlives the kernels is among those the run keeps track of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The gate kernel as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (leaves0 m ρ c) (keeps0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The network kernel as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (leaves1 m ρ c) (keeps1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program, segment by segment. -/
abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ) ]
/-- The program is the run of its segments. -/
theorem main_run (c : Dev nD) : main (F := F) c = Pipeline.Seg.run (segs m ρ) := (main_chain c).trans (by chain_rfl)

/-- Every semaphore belongs to a kernel. -/
theorem no_unscoped : ∀ sm : SemLoc sig, sm.isScoped .tc = true := by decide

set_option backward.isDefEq.respectTransparency.types false in
/-- Every run of the program ends with every counter at zero and every buffer at the last boundary's contents. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- Every run ends with the arguments as they were, every counter at zero, and the result at what the network kernel
    made of it. -/
theorem finish : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27))
      ∧ r.2.sem = fun _ => 0)
      ∧ ∀ c : Dev nD, r.2.mem ((c.tc : Thread nD τ).loc main_v23) = (dat1 (V3 m ρ) c).arrAt 10 cfg1.N) :=
  (θ_run defs _ _).mono (fun r h => ⟨⟨fun c => ⟨(h.1 c _ (mem_uc main_arg0 (by decide))).trans (W4_args m ρ c main_arg0 (by decide)),
    (h.1 c _ (mem_uc main_arg1 (by decide))).trans (W4_args m ρ c main_arg1 (by decide)),
    (h.1 c _ (mem_uc main_arg2 (by decide))).trans (W4_args m ρ c main_arg2 (by decide)),
    (h.1 c _ (mem_uc main_arg3 (by decide))).trans (W4_args m ρ c main_arg3 (by decide)),
    (h.1 c _ (mem_uc main_arg4 (by decide))).trans (W4_args m ρ c main_arg4 (by decide)),
    (h.1 c _ (mem_uc main_arg5 (by decide))).trans (W4_args m ρ c main_arg5 (by decide)),
    (h.1 c _ (mem_uc main_arg6 (by decide))).trans (W4_args m ρ c main_arg6 (by decide)),
    (h.1 c _ (mem_uc main_arg7 (by decide))).trans (W4_args m ρ c main_arg7 (by decide)),
    (h.1 c _ (mem_uc main_arg8 (by decide))).trans (W4_args m ρ c main_arg8 (by decide)),
    (h.1 c _ (mem_uc main_arg9 (by decide))).trans (W4_args m ρ c main_arg9 (by decide)),
    (h.1 c _ (mem_uc main_arg10 (by decide))).trans (W4_args m ρ c main_arg10 (by decide)),
    (h.1 c _ (mem_uc main_arg11 (by decide))).trans (W4_args m ρ c main_arg11 (by decide)),
    (h.1 c _ (mem_uc main_arg12 (by decide))).trans (W4_args m ρ c main_arg12 (by decide)),
    (h.1 c _ (mem_uc main_arg13 (by decide))).trans (W4_args m ρ c main_arg13 (by decide)),
    (h.1 c _ (mem_uc main_arg14 (by decide))).trans (W4_args m ρ c main_arg14 (by decide)),
    (h.1 c _ (mem_uc main_arg15 (by decide))).trans (W4_args m ρ c main_arg15 (by decide)),
    (h.1 c _ (mem_uc main_arg16 (by decide))).trans (W4_args m ρ c main_arg16 (by decide)),
    (h.1 c _ (mem_uc main_arg17 (by decide))).trans (W4_args m ρ c main_arg17 (by decide)),
    (h.1 c _ (mem_uc main_arg18 (by decide))).trans (W4_args m ρ c main_arg18 (by decide)),
    (h.1 c _ (mem_uc main_arg19 (by decide))).trans (W4_args m ρ c main_arg19 (by decide)),
    (h.1 c _ (mem_uc main_arg20 (by decide))).trans (W4_args m ρ c main_arg20 (by decide)),
    (h.1 c _ (mem_uc main_arg21 (by decide))).trans (W4_args m ρ c main_arg21 (by decide)),
    (h.1 c _ (mem_uc main_arg22 (by decide))).trans (W4_args m ρ c main_arg22 (by decide)),
    (h.1 c _ (mem_uc main_arg23 (by decide))).trans (W4_args m ρ c main_arg23 (by decide)),
    (h.1 c _ (mem_uc main_arg24 (by decide))).trans (W4_args m ρ c main_arg24 (by decide)),
    (h.1 c _ (mem_uc main_arg25 (by decide))).trans (W4_args m ρ c main_arg25 (by decide)),
    (h.1 c _ (mem_uc main_arg26 (by decide))).trans (W4_args m ρ c main_arg26 (by decide)),
    (h.1 c _ (mem_uc main_arg27 (by decide))).trans (W4_args m ρ c main_arg27 (by decide))⟩, h.2⟩,
    fun c => (h.1 c _ (mem_uc main_v23 (by decide))).trans (W4_arr m ρ c 10)⟩) (ends m ρ)

end Cert.KernelIdeal.Run
-- ==== Proof.Frames.lean ====
/- The three programs end, whatever their arguments hold: nothing faults, the arguments are as they were, every counter is
   at zero. And the kernel's idealization differs from the kernel only by naming one constant. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_inputs
public import proofs.«01_k».proof.Proof.Kernel.Run
public import proofs.«01_k».proof.Proof.KernelIdeal.Run

@[expose] public section

noncomputable section

namespace Cert.Proof

open Idealize.ShloMosaic Idealize.SL.Sem

/-- The kernel, on the floats of the machine. -/
theorem frame_kernel : Cert.quiescent_Kernel := fun m ρ _ =>
  (θ_run Cert.Kernel.defs _ _).mono (fun _ h => h.1) (Cert.Kernel.Run.finish (F := Bits) m ρ)

/-- The kernel, on the extended reals. -/
theorem frame_kernelIdeal : Cert.quiescent_KernelIdeal := fun m ρ _ =>
  (θ_run Cert.KernelIdeal.defs _ _).mono (fun _ h => h.1) (Cert.KernelIdeal.Run.finish (F := Ideal) m ρ)

/-- The reference, on the extended reals. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel on the extended reals, again under the precondition of the claim on values. -/
theorem frame_kernelIdeal_pre : Cert.quiescent_KernelIdeal_pre_finite_inputs := fun m ρ _ =>
  (θ_run Cert.KernelIdeal.defs _ _).mono (fun _ h => h.1) (Cert.KernelIdeal.Run.finish (F := Ideal) m ρ)

/-- The reference on the extended reals, again under that precondition. -/
theorem frame_referenceIdeal_pre : Cert.quiescent_ReferenceIdeal_pre_finite_inputs := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The named constant is the reciprocal of the square root of 128. -/
theorem preserves : Cert.preserves_Kernel_KernelIdeal :=
  IdealRules.named_const.statement Cert.KernelIdeal.κ "inv_sqrt_key" .f32 0x3DB504F3#32 (((Real.sqrt 128)⁻¹ : ℝ) : EReal) rfl

end Cert.Proof

end
-- ==== Proof.KernelIdeal.Entry.lean ====
/- What the regions find in the buffers the host filled: the arguments, sliced, transposed and reshaped, element by element. -/
module

public import proofs.«01_k».proof.Proof.KernelIdeal.Run
public import Idealize.ShloMosaic.Lib.Pointwise
public import Idealize.ShloMosaic.Lib.Claim

@[expose] public section

set_option maxRecDepth 16384

noncomputable section

namespace Cert.KernelIdeal.Entry

open Idealize.ShloMosaic Idealize.ShloMosaic.TcCoe Idealize.SL.Sem
open Cert.KernelIdeal Cert.KernelIdeal.Gen Cert.KernelIdeal.Run

variable (m : (ℓ : Loc nD τ sig) → Buf (Elt Ideal) ℓ) (ρ : Dev nD → PrngReg)

/-- The query layer's first bias, as a row. -/
theorem v0_apply (c : Dev nD) (j : Fin 256) : V1 m ρ c main_v0 (ix2 0 j) = m ((c : Thread nD τ).loc main_arg5) (ix1 j) := by
  have h : V1 m ρ c main_v0 = shapeCast S1x256 (W0 m ρ c (Proc.devRef .tc main_arg5)) shapeCasts_S256_S1x256 := by
    show StableHlo.after hostOps0 (W0 m ρ c) (Proc.devRef .tc main_v0) = _
    after_results
    rfl
  rw [h]
  pointwise

/-- The query layer's second bias, as a row. -/
theorem v1_apply (c : Dev nD) (j : Fin 128) : V1 m ρ c main_v1 (ix2 0 j) = m ((c : Thread nD τ).loc main_arg7) (ix1 j) := by
  have h : V1 m ρ c main_v1 = shapeCast S1x128 (W0 m ρ c (Proc.devRef .tc main_arg7)) shapeCasts_S128_S1x128 := by
    show StableHlo.after hostOps0 (W0 m ρ c) (Proc.devRef .tc main_v1) = _
    after_results
    rfl
  rw [h]
  pointwise

/-- The pair layer's weights on the bank entry: the first 64 columns. -/
theorem v2_apply (c : Dev nD) (j : Fin 256) (k : Fin 64) : V1 m ρ c main_v2 (ix2 j k) = m ((c : Thread nD τ).loc main_arg8) (ix2 j ⟨k.val, by omega⟩) := by
  have h : V1 m ρ c main_v2 = extractStridedSlice S256x64 ![0, 0] (W0 m ρ c (Proc.devRef .tc main_arg8)) slices_S256x129_S256x64_0_0 := by
    show StableHlo.after hostOps0 (W0 m ρ c) (Proc.devRef .tc main_v2) = _
    after_results
  rw [h]
  pointwise

/-- The pair layer's weights on the difference: the next 64 columns. -/
theorem v3_apply (c : Dev nD) (j : Fin 256) (k : Fin 64) : V1 m ρ c main_v3 (ix2 j k) = m ((c : Thread nD τ).loc main_arg8) (ix2 j ⟨64 + k.val, by omega⟩) := by
  have h : V1 m ρ c main_v3 = extractStridedSlice S256x64 ![0, 64] (W0 m ρ c (Proc.devRef .tc main_arg8)) slices_S256x129_S256x64_0_64 := by
    show StableHlo.after hostOps0 (W0 m ρ c) (Proc.devRef .tc main_v3) = _
    after_results
  rw [h]
  pointwise

/-- The pair layer's weights on the distance: the last column, as a row. -/
theorem v5_apply (c : Dev nD) (j : Fin 256) : V1 m ρ c main_v5 (ix2 0 j) = m ((c : Thread nD τ).loc main_arg8) (ix2 j 128) := by
  have h : V1 m ρ c main_v5 = transpose S1x256 [1, 0] (extractStridedSlice S256x1 ![0, 128] (W0 m ρ c (Proc.devRef .tc main_arg8)) slices_S256x129_S256x1_0_128) transposes_S256x1_S1x256_1_0 := by
    show StableHlo.after hostOps0 (W0 m ρ c) (Proc.devRef .tc main_v5) = _
    after_results
  rw [h]
  pointwise

/-- The pair layer's bias, as a row. -/
theorem v6_apply (c : Dev nD) (j : Fin 256) : V1 m ρ c main_v6 (ix2 0 j) = m ((c : Thread nD τ).loc main_arg9) (ix1 j) := by
  have h : V1 m ρ c main_v6 = shapeCast S1x256 (W0 m ρ c (Proc.devRef .tc main_arg9)) shapeCasts_S256_S1x256 := by
    show StableHlo.after hostOps0 (W0 m ρ c) (Proc.devRef .tc main_v6) = _
    after_results
    rfl
  rw [h]
  pointwise

/-- The key layer's bias, as a row. -/
theorem v7_apply (c : Dev nD) (j : Fin 128) : V1 m ρ c main_v7 (ix2 0 j) = m ((c : Thread nD τ).loc main_arg11) (ix1 j) := by
  have h : V1 m ρ c main_v7 = shapeCast S1x128 (W0 m ρ c (Proc.devRef .tc main_arg11)) shapeCasts_S128_S1x128 := by
    show StableHlo.after hostOps0 (W0 m ρ c) (Proc.devRef .tc main_v7) = _
    after_results
    rfl
  rw [h]
  pointwise

/-- The value layer's bias, as a row. -/
theorem v8_apply (c : Dev nD) (j : Fin 128) : V1 m ρ c main_v8 (ix2 0 j) = m ((c : Thread nD τ).loc main_arg13) (ix1 j) := by
  have h : V1 m ρ c main_v8 = shapeCast S1x128 (W0 m ρ c (Proc.devRef .tc main_arg13)) shapeCasts_S128_S1x128 := by
    show StableHlo.after hostOps0 (W0 m ρ c) (Proc.devRef .tc main_v8) = _
    after_results
    rfl
  rw [h]
  pointwise

/-- The weights on the query after the attention: the first 128 columns. -/
theorem v9_apply (c : Dev nD) (j k : Fin 128) : V1 m ρ c main_v9 (ix2 j k) = m ((c : Thread nD τ).loc main_arg14) (ix2 j ⟨k.val, by omega⟩) := by
  have h : V1 m ρ c main_v9 = extractStridedSlice S128x128 ![0, 0] (W0 m ρ c (Proc.devRef .tc main_arg14)) slices_S128x256_S128x128_0_0 := by
    show StableHlo.after hostOps0 (W0 m ρ c) (Proc.devRef .tc main_v9) = _
    after_results
  rw [h]
  pointwise

/-- The weights on the attended value: the last 128 columns. -/
theorem v10_apply (c : Dev nD) (j k : Fin 128) : V1 m ρ c main_v10 (ix2 j k) = m ((c : Thread nD τ).loc main_arg14) (ix2 j ⟨128 + k.val, by omega⟩) := by
  have h : V1 m ρ c main_v10 = extractStridedSlice S128x128 ![0, 128] (W0 m ρ c (Proc.devRef .tc main_arg14)) slices_S128x256_S128x128_0_128 := by
    show StableHlo.after hostOps0 (W0 m ρ c) (Proc.devRef .tc main_v10) = _
    after_results
  rw [h]
  pointwise

/-- The bias after the attention, as a row. -/
theorem v11_apply (c : Dev nD) (j : Fin 128) : V1 m ρ c main_v11 (ix2 0 j) = m ((c : Thread nD τ).loc main_arg15) (ix1 j) := by
  have h : V1 m ρ c main_v11 = shapeCast S1x128 (W0 m ρ c (Proc.devRef .tc main_arg15)) shapeCasts_S128_S1x128 := by
    show StableHlo.after hostOps0 (W0 m ρ c) (Proc.devRef .tc main_v11) = _
    after_results
    rfl
  rw [h]
  pointwise

/-- The gate's last weights, as a column. -/
theorem v12_apply (c : Dev nD) (j : Fin 128) : V1 m ρ c main_v12 (ix2 j 0) = m ((c : Thread nD τ).loc main_arg16) (ix2 0 j) := by
  have h : V1 m ρ c main_v12 = transpose S128x1 [1, 0] (W0 m ρ c (Proc.devRef .tc main_arg16)) transposes_S1x128_S128x1_1_0 := by
    show StableHlo.after hostOps0 (W0 m ρ c) (Proc.devRef .tc main_v12) = _
    after_results
  rw [h]
  pointwise

/-- The gate's last bias. -/
theorem v13_apply (c : Dev nD)  : V1 m ρ c main_v13 (ix2 0 0) = m ((c : Thread nD τ).loc main_arg17) (ix1 0) := by
  have h : V1 m ρ c main_v13 = shapeCast S1x1 (W0 m ρ c (Proc.devRef .tc main_arg17)) shapeCasts_S1_S1x1 := by
    show StableHlo.after hostOps0 (W0 m ρ c) (Proc.devRef .tc main_v13) = _
    after_results
    rfl
  rw [h]
  pointwise

/-- The static projection's bias, as a row. -/
theorem v14_apply (c : Dev nD) (j : Fin 1024) : V1 m ρ c main_v14 (ix2 0 j) = m ((c : Thread nD τ).loc main_arg21) (ix1 j) := by
  have h : V1 m ρ c main_v14 = shapeCast S1x1024 (W0 m ρ c (Proc.devRef .tc main_arg21)) shapeCasts_S1024_S1x1024 := by
    show StableHlo.after hostOps0 (W0 m ρ c) (Proc.devRef .tc main_v14) = _
    after_results
    rfl
  rw [h]
  pointwise

/-- The time projection's bias, as a row. -/
theorem v15_apply (c : Dev nD) (j : Fin 1024) : V1 m ρ c main_v15 (ix2 0 j) = m ((c : Thread nD τ).loc main_arg19) (ix1 j) := by
  have h : V1 m ρ c main_v15 = shapeCast S1x1024 (W0 m ρ c (Proc.devRef .tc main_arg19)) shapeCasts_S1024_S1x1024 := by
    show StableHlo.after hostOps0 (W0 m ρ c) (Proc.devRef .tc main_v15) = _
    after_results
    rfl
  rw [h]
  pointwise

/-- The first layer's bias, as a row. -/
theorem v16_apply (c : Dev nD) (j : Fin 2048) : V1 m ρ c main_v16 (ix2 0 j) = m ((c : Thread nD τ).loc main_arg23) (ix1 j) := by
  have h : V1 m ρ c main_v16 = shapeCast S1x2048 (W0 m ρ c (Proc.devRef .tc main_arg23)) shapeCasts_S2048_S1x2048 := by
    show StableHlo.after hostOps0 (W0 m ρ c) (Proc.devRef .tc main_v16) = _
    after_results
    rfl
  rw [h]
  pointwise

/-! The second region's operands, from what the first one left. -/

/-- The gate, with an axis put in. -/
theorem v18_apply (c : Dev nD) (b : Fin 8) (l : Fin 128) : V3 m ρ c main_v18 (ix3 b 0 l) = W2 m ρ c (Proc.devRef .tc main_v17_0) (ix2 b l) := by
  have h : V3 m ρ c main_v18 = shapeCast S8x1x128 (W2 m ρ c (Proc.devRef .tc main_v17_0)) shapeCasts_S8x128_S8x1x128 := by
    show StableHlo.after hostOps1 (W2 m ρ c) (Proc.devRef .tc main_v18) = _
    after_results
    rfl
  rw [h]
  pointwise

/-- The hidden layer's constant part, with an axis put in. -/
theorem v19_apply (c : Dev nD) (b : Fin 8) (j : Fin 2048) : V3 m ρ c main_v19 (ix3 b 0 j) = W2 m ρ c (Proc.devRef .tc main_v17_1) (ix2 b j) := by
  have h : V3 m ρ c main_v19 = shapeCast S8x1x2048 (W2 m ρ c (Proc.devRef .tc main_v17_1)) shapeCasts_S8x2048_S8x1x2048 := by
    show StableHlo.after hostOps1 (W2 m ρ c) (Proc.devRef .tc main_v19) = _
    after_results
    rfl
  rw [h]
  pointwise

/-- The second layer's bias, as a row. -/
theorem v20_apply (c : Dev nD) (j : Fin 1024) : V3 m ρ c main_v20 (ix2 0 j) = W2 m ρ c (Proc.devRef .tc main_arg25) (ix1 j) := by
  have h : V3 m ρ c main_v20 = shapeCast S1x1024 (W2 m ρ c (Proc.devRef .tc main_arg25)) shapeCasts_S1024_S1x1024 := by
    show StableHlo.after hostOps1 (W2 m ρ c) (Proc.devRef .tc main_v20) = _
    after_results
    rfl
  rw [h]
  pointwise

/-- The normalisation's scale, as a row. -/
theorem v21_apply (c : Dev nD) (j : Fin 1024) : V3 m ρ c main_v21 (ix2 0 j) = W2 m ρ c (Proc.devRef .tc main_arg26) (ix1 j) := by
  have h : V3 m ρ c main_v21 = shapeCast S1x1024 (W2 m ρ c (Proc.devRef .tc main_arg26)) shapeCasts_S1024_S1x1024 := by
    show StableHlo.after hostOps1 (W2 m ρ c) (Proc.devRef .tc main_v21) = _
    after_results
    rfl
  rw [h]
  pointwise

/-- The normalisation's shift, as a row. -/
theorem v22_apply (c : Dev nD) (j : Fin 1024) : V3 m ρ c main_v22 (ix2 0 j) = W2 m ρ c (Proc.devRef .tc main_arg27) (ix1 j) := by
  have h : V3 m ρ c main_v22 = shapeCast S1x1024 (W2 m ρ c (Proc.devRef .tc main_arg27)) shapeCasts_S1024_S1x1024 := by
    show StableHlo.after hostOps1 (W2 m ρ c) (Proc.devRef .tc main_v22) = _
    after_results
    rfl
  rw [h]
  pointwise

end Cert.KernelIdeal.Entry

end
-- ==== Proof.Spec.lean ====
/- The network in plain formulas over the extended reals, apart from any program: a gate per batch row, and per token a
   correction by a two-layer network, normalised, scaled by the gate and added to the token. -/
module

public import Idealize.ShloMosaic.PureOps.Ideal
public import Idealize.ShloMosaic.PureOps.Ideal.Laws

@[expose] public section

noncomputable section

namespace Cert.Spec

open Idealize.ShloMosaic

/-- One half, as the programs write it. -/
abbrev half : EReal := Ideal.ofBits .f32 0x3F000000#32
/-- The factor inside the error function: the programs' literal for the inverse root of two. -/
abbrev slope : EReal := Ideal.ofBits .f32 0x3F3504F3#32
/-- The number added to the variance before its root is taken. -/
abbrev eps : EReal := Ideal.ofBits .f32 0x3727C5AC#32
/-- One over the width of the model. -/
abbrev perWidth : EReal := Ideal.ofBits .f32 0x3A800000#32

/-- The width of the model. -/
abbrev width : EReal := Ideal.ofBits .f32 0x44800000#32

/-- The gaussian error unit. -/
def gelu (z : EReal) : EReal := half * z * (1 + Ideal.erf (z * slope))

/-- One output of a linear layer with weights `w` and bias `b`, on the input `x`. -/
def unit {n : ℕ} (x w : Fin n → EReal) (b : EReal) : EReal := (∑ k, x k * w k) + b

/-- What the gate depends on: the static features, the bank of sites, and the weights of its layers. The first layer on
    pairs comes in three parts (for the bank entry, for the difference, for the distance), the first layer after the
    attention in two (for the query, for the attended value). -/
structure Gate where
  (s : Fin 8 → Fin 64 → EReal) (bank : Fin 256 → Fin 64 → EReal)
  (Wq1 : Fin 256 → Fin 64 → EReal) (bq1 : Fin 256 → EReal) (Wq2 : Fin 128 → Fin 256 → EReal) (bq2 : Fin 128 → EReal)
  (Wa : Fin 256 → Fin 64 → EReal) (Wb : Fin 256 → Fin 64 → EReal) (Wd : Fin 256 → EReal) (br1 : Fin 256 → EReal)
  (Wr2 : Fin 128 → Fin 256 → EReal) (br2 : Fin 128 → EReal)
  (Wv : Fin 128 → Fin 64 → EReal) (bv : Fin 128 → EReal)
  (Wq : Fin 128 → Fin 128 → EReal) (Wz : Fin 128 → Fin 128 → EReal) (bo1 : Fin 128 → EReal)
  (Wo2 : Fin 128 → EReal) (bo2 : EReal) (scale : EReal)

namespace Gate

variable (G : Gate)

/-- The query of batch row `b`. -/
def query (b : Fin 8) (j : Fin 128) : EReal :=
  unit (fun k => gelu (unit (G.s b) (G.Wq1 k) (G.bq1 k))) (G.Wq2 j) (G.bq2 j)

/-- The difference between the static features of row `b` and bank entry `n`. -/
def diff (b : Fin 8) (n : Fin 256) (k : Fin 64) : EReal := G.s b k - G.bank n k

/-- Their distance. -/
def dist (b : Fin 8) (n : Fin 256) : EReal := Ideal.sqrt (∑ k, G.diff b n k * G.diff b n k)

/-- The first layer on the pair of row `b` and bank entry `n`. -/
def pair (b : Fin 8) (n : Fin 256) (j : Fin 256) : EReal :=
  unit (G.bank n) (G.Wa j) (G.br1 j) + (∑ k, G.diff b n k * G.Wb j k) + G.dist b n * G.Wd j

/-- The key of the pair. -/
def key (b : Fin 8) (n : Fin 256) (j : Fin 128) : EReal :=
  unit (fun k => gelu (G.pair b n k)) (G.Wr2 j) (G.br2 j)

/-- The attention's logit. -/
def logit (b : Fin 8) (n : Fin 256) : EReal := (∑ j, G.key b n j * G.query b j) * G.scale

/-- The largest logit of a row. -/
def top (b : Fin 8) : EReal :=
  max (Ideal.ofBits .f32 0xFF800000#32) (Finset.univ.fold max (Ideal.ofBits .f32 0xFF800000#32) fun n => G.logit b n)

/-- The exponential of a logit, shifted by the largest. -/
def expo (b : Fin 8) (n : Fin 256) : EReal := Ideal.exp (G.logit b n - G.top b)

/-- The attention's weight. -/
def weight (b : Fin 8) (n : Fin 256) : EReal := Ideal.div (G.expo b n) (∑ n', G.expo b n')

/-- The attended value. -/
def value (b : Fin 8) (j : Fin 128) : EReal := ∑ n, G.weight b n * unit (G.bank n) (G.Wv j) (G.bv j)

/-- The first layer after the attention. -/
def mixed (b : Fin 8) (j : Fin 128) : EReal :=
  (∑ k, G.query b k * G.Wq j k) + (∑ k, G.value b k * G.Wz j k) + G.bo1 j

/-- The gate's logit. -/
def score (b : Fin 8) : EReal := unit (fun j => gelu (G.mixed b j)) G.Wo2 G.bo2

/-- The gate of batch row `b`. -/
def gate (b : Fin 8) : EReal := Ideal.logistic (G.score b)

end Gate

/-- What one token's result depends on, with the first layer's constant part gathered in `bias` and the time features
    taken straight to the hidden layer by `Wt`. -/
structure Token where
  (h : Fin 1024 → EReal) (tm : Fin 32 → EReal) (W1 : Fin 2048 → Fin 1024 → EReal) (Wt : Fin 2048 → Fin 32 → EReal)
  (bias : Fin 2048 → EReal) (W2 : Fin 1024 → Fin 2048 → EReal) (b2 : Fin 1024 → EReal)
  (g : Fin 1024 → EReal) (b : Fin 1024 → EReal) (alpha : EReal)

namespace Token

variable (T : Token)

/-- The hidden layer. -/
def hidden (j : Fin 2048) : EReal := (∑ k, T.h k * T.W1 j k) + (∑ n, T.tm n * T.Wt j n) + T.bias j

/-- The correction before it is normalised. -/
def corr (d : Fin 1024) : EReal := unit (fun j => gelu (T.hidden j)) (T.W2 d) (T.b2 d)

/-- Its mean. -/
def mean : EReal := (∑ d, T.corr d) * perWidth

/-- The mean of its squares less the square of its mean. -/
def spread : EReal := (∑ d, T.corr d * T.corr d) * perWidth - T.mean * T.mean

/-- The token with its correction added, the gate pushed into the normalisation's own scale and shift. -/
def result (d : Fin 1024) : EReal :=
  T.h d + (T.corr d - T.mean) * Ideal.rsqrt (T.spread + eps) * (T.alpha * T.g d) + T.alpha * T.b d

end Token

/-- What the correction network depends on, with the first layer `C` on the token's hidden states, its projected time
    features and its batch row's projected static features laid side by side. -/
structure Net where
  (h : Fin 8 → Fin 2048 → Fin 1024 → EReal) (s : Fin 8 → Fin 64 → EReal) (tm : Fin 8 → Fin 2048 → Fin 32 → EReal)
  (Wt : Fin 1024 → Fin 32 → EReal) (bt : Fin 1024 → EReal) (Ws : Fin 1024 → Fin 64 → EReal) (bs : Fin 1024 → EReal)
  (C : Fin 2048 → Fin 3072 → EReal) (bc : Fin 2048 → EReal) (W2 : Fin 1024 → Fin 2048 → EReal) (b2 : Fin 1024 → EReal)
  (g : Fin 1024 → EReal) (b : Fin 1024 → EReal)

namespace Net

variable (N : Net)

/-- The projected time features of token `t` of batch row `r`. -/
def time (r : Fin 8) (t : Fin 2048) (d : Fin 1024) : EReal := unit (N.tm r t) (N.Wt d) (N.bt d)

/-- The projected static features of batch row `r`. -/
def static (r : Fin 8) (d : Fin 1024) : EReal := unit (N.s r) (N.Ws d) (N.bs d)

/-- The hidden layer. -/
def hidden (r : Fin 8) (t : Fin 2048) (j : Fin 2048) : EReal :=
  (∑ k : Fin 1024, N.h r t k * N.C j ⟨k.val, by omega⟩)
    + ((∑ d : Fin 1024, N.time r t d * N.C j ⟨1024 + d.val, by omega⟩)
      + ∑ d : Fin 1024, N.static r d * N.C j ⟨2048 + d.val, by omega⟩)
    + N.bc j

/-- The correction before it is normalised. -/
def corr (r : Fin 8) (t : Fin 2048) (d : Fin 1024) : EReal := unit (fun j => gelu (N.hidden r t j)) (N.W2 d) (N.b2 d)

/-- Its mean. -/
def mean (r : Fin 8) (t : Fin 2048) : EReal := Ideal.div (∑ d, N.corr r t d) width

/-- The mean of its squared deviations. -/
def spread (r : Fin 8) (t : Fin 2048) : EReal :=
  Ideal.div (∑ d, (N.corr r t d - N.mean r t) * (N.corr r t d - N.mean r t)) width

/-- The token with its gated, normalised correction added. -/
def result (alpha : Fin 8 → EReal) (r : Fin 8) (t : Fin 2048) (d : Fin 1024) : EReal :=
  N.h r t d + alpha r * (Ideal.div (N.corr r t d - N.mean r t) (Ideal.sqrt (N.spread r t + eps)) * N.g d + N.b d)

/-- The same token with the projections folded into the first layer. -/
def token (alpha : Fin 8 → EReal) (r : Fin 8) (t : Fin 2048) : Token where
  h := N.h r t
  tm := N.tm r t
  W1 j k := N.C j ⟨k.val, by omega⟩
  Wt j n := ∑ d : Fin 1024, N.C j ⟨1024 + d.val, by omega⟩ * N.Wt d n
  bias j := (∑ d : Fin 1024, N.static r d * N.C j ⟨2048 + d.val, by omega⟩) + N.bc j
    + ∑ d : Fin 1024, N.bt d * N.C j ⟨1024 + d.val, by omega⟩
  W2 := N.W2
  b2 := N.b2
  g := N.g
  b := N.b
  alpha := alpha r

end Net

end Cert.Spec

end
-- ==== Proof.KernelIdeal.GateValue.lean ====
/- What the first region's body stores, element by element: the gate, and the operands of the second region. -/
module

public import proofs.«01_k».proof.Proof.KernelIdeal.GateBody
public import proofs.«01_k».proof.Proof.Spec
public import Idealize.ShloMosaic.Lib.Pointwise
public import Idealize.ShloMosaic.Lib.Pipeline.ValueKit

@[expose] public section

set_option maxRecDepth 16384

noncomputable section

namespace Cert.KernelIdeal.GateValue

open Idealize.ShloMosaic Idealize.ShloMosaic.TcCoe
open Cert.KernelIdeal Cert.KernelIdeal.Gen

/-- The gate's inputs as the first region's windows hold them. -/
abbrev ofBlocks (x0 : Vec Ideal S8x64 .f32) (x1 : Vec Ideal S256x64 .f32) (x2 : Vec Ideal S256x64 .f32) (x3 : Vec Ideal S1x256 .f32) (x4 : Vec Ideal S128x256 .f32) (x5 : Vec Ideal S1x128 .f32) (x6 x7 : Vec Ideal S256x64 .f32) (x8 x9 : Vec Ideal S1x256 .f32) (x10 : Vec Ideal S128x256 .f32) (x11 : Vec Ideal S1x128 .f32) (x12 : Vec Ideal S128x64 .f32) (x13 : Vec Ideal S1x128 .f32) (x14 x15 : Vec Ideal S128x128 .f32) (x16 : Vec Ideal S1x128 .f32) (x17 : Vec Ideal S128x1 .f32) (x18 : Vec Ideal S1x1 .f32) : Spec.Gate where
  s b k := x0 (ix2 b k)
  bank n k := x1 (ix2 n k)
  Wq1 j k := x2 (ix2 j k)
  bq1 j := x3 (ix2 0 j)
  Wq2 j k := x4 (ix2 j k)
  bq2 j := x5 (ix2 0 j)
  Wa j k := x6 (ix2 j k)
  Wb j k := x7 (ix2 j k)
  Wd j := x8 (ix2 0 j)
  br1 j := x9 (ix2 0 j)
  Wr2 j k := x10 (ix2 j k)
  br2 j := x11 (ix2 0 j)
  Wv j k := x12 (ix2 j k)
  bv j := x13 (ix2 0 j)
  Wq j k := x14 (ix2 j k)
  Wz j k := x15 (ix2 j k)
  bo1 j := x16 (ix2 0 j)
  Wo2 j := x17 (ix2 j 0)
  bo2 := x18 (ix2 0 0)
  scale := Named.named (F := Ideal) (φ := .f32) κ "inv_sqrt_key" 0x3DB504F3#32

variable (x0 : Vec Ideal S8x64 .f32) (x1 : Vec Ideal S256x64 .f32) (x2 : Vec Ideal S256x64 .f32) (x3 : Vec Ideal S1x256 .f32) (x4 : Vec Ideal S128x256 .f32) (x5 : Vec Ideal S1x128 .f32) (x6 x7 : Vec Ideal S256x64 .f32) (x8 x9 : Vec Ideal S1x256 .f32) (x10 : Vec Ideal S128x256 .f32) (x11 : Vec Ideal S1x128 .f32) (x12 : Vec Ideal S128x64 .f32) (x13 : Vec Ideal S1x128 .f32) (x14 x15 : Vec Ideal S128x128 .f32) (x16 : Vec Ideal S1x128 .f32) (x17 : Vec Ideal S128x1 .f32) (x18 : Vec Ideal S1x1 .f32)

local notation "GG" => ofBlocks x0 x1 x2 x3 x4 x5 x6 x7 x8 x9 x10 x11 x12 x13 x14 x15 x16 x17 x18

/-- The query's payload, at an element. -/
theorem query_apply (b : Fin 8) (j : Fin 128) :
    k0_pay2 (F := Ideal) x0 x2 x3 x4 x5 (ix2 b j) = (GG).query b j := by
  pointwise [k0_pay2]
  rfl

/-- The differences' payload: row and bank entry share one axis. -/
theorem diff_apply (r : Fin 2048) (k : Fin 64) :
    k0_pay4 (F := Ideal) x0 x1 (ix2 r k) = (GG).diff ⟨r.val / 256, by omega⟩ ⟨r.val % 256, by omega⟩ k := by
  pointwise [k0_pay4, k0_pay3]
  rfl

/-- The distances' payload. -/
theorem dist_apply (r : Fin 2048) :
    k0_pay5 (F := Ideal) x0 x1 (ix2 r 0) = (GG).dist ⟨r.val / 256, by omega⟩ ⟨r.val % 256, by omega⟩ := by
  pointwise [k0_pay5, k0_pay3]
  rfl

/-- The bank's part of the first layer on pairs. -/
theorem bank_apply (n j : Fin 256) :
    k0_pay6 (F := Ideal) x1 x6 (ix2 n j) = ∑ k : Fin 64, (GG).bank n k * (GG).Wa j k := by
  pointwise [k0_pay6]

/-- The logits' payload, on what the earlier payloads left. -/
theorem logit_apply (b : Fin 8) (n : Fin 256) :
    k0_pay7 (F := Ideal) (k0_pay2 x0 x2 x3 x4 x5) (k0_pay4 x0 x1) (k0_pay5 x0 x1) (k0_pay6 x1 x6) x9 x7 x8 x10 x11 (ix2 b n) = (GG).logit b n := by
  have hq := query_apply x0 x1 x2 x3 x4 x5 x6 x7 x8 x9 x10 x11 x12 x13 x14 x15 x16 x17 x18
  have hd := diff_apply x0 x1 x2 x3 x4 x5 x6 x7 x8 x9 x10 x11 x12 x13 x14 x15 x16 x17 x18
  have hs := dist_apply x0 x1 x2 x3 x4 x5 x6 x7 x8 x9 x10 x11 x12 x13 x14 x15 x16 x17 x18
  have hb := bank_apply x0 x1 x2 x3 x4 x5 x6 x7 x8 x9 x10 x11 x12 x13 x14 x15 x16 x17 x18
  generalize k0_pay2 (F := Ideal) x0 x2 x3 x4 x5 = q at hq ⊢
  generalize k0_pay4 (F := Ideal) x0 x1 = d at hd ⊢
  generalize k0_pay5 (F := Ideal) x0 x1 = s at hs ⊢
  generalize k0_pay6 (F := Ideal) x1 x6 = a at hb ⊢
  have e1 : ∀ (h : b.val * 256 + n.val < 2048) (h' : (b.val * 256 + n.val) / 256 < 8), (⟨(b.val * 256 + n.val) / 256, h'⟩ : Fin 8) = b := fun _ _ => Fin.ext (by show (b.val * 256 + n.val) / 256 = b.val; omega)
  have e2 : ∀ (h : b.val * 256 + n.val < 2048) (h' : (b.val * 256 + n.val) % 256 < 256), (⟨(b.val * 256 + n.val) % 256, h'⟩ : Fin 256) = n := fun _ _ => Fin.ext (by show (b.val * 256 + n.val) % 256 = n.val; omega)
  pointwise [k0_pay7]
  simp only [hq, hd, hs, hb]
  simp only [e1 (by omega), e2 (by omega)]
  rfl

/-- The largest logit's payload. -/
theorem top_apply (b : Fin 8) (n : Fin 256) :
    k0_pay8 (F := Ideal) (k0_pay2 x0 x2 x3 x4 x5) (k0_pay4 x0 x1) (k0_pay5 x0 x1) (k0_pay6 x1 x6) x9 x7 x8 x10 x11 (ix2 b n) = (GG).top b := by
  have hl := logit_apply x0 x1 x2 x3 x4 x5 x6 x7 x8 x9 x10 x11 x12 x13 x14 x15 x16 x17 x18
  pointwise [k0_pay8]
  simp only [hl]
  rfl

/-- The score's payload, before its bias. -/
theorem score_apply (q : FVec Ideal S8x128 .f32) (l t : FVec Ideal S8x256 .f32)
    (hq : ∀ b j, q (ix2 b j) = (GG).query b j) (hl : ∀ b n, l (ix2 b n) = (GG).logit b n) (ht : ∀ b n, t (ix2 b n) = (GG).top b) (b : Fin 8) :
    k0_pay9 (F := Ideal) x1 q l t x12 x13 x14 x15 x16 x17 (ix2 b 0) = ∑ j : Fin 128, Spec.gelu ((GG).mixed b j) * (GG).Wo2 j := by
  pointwise [k0_pay9]
  simp only [hq, hl, ht]
  rfl

/-- The gate as the body stores it, on every lane. -/
theorem alpha_apply (b : Fin 8) (l : Fin 128) : Gate.alphaOf (F := Ideal) x0 x1 x2 x3 x4 x5 x6 x7 x8 x9 x10 x11 x12 x13 x14 x15 x16 x17 x18 (ix2 b l) = (GG).gate b := by
  have hs := score_apply x0 x1 x2 x3 x4 x5 x6 x7 x8 x9 x10 x11 x12 x13 x14 x15 x16 x17 x18 _ _ _ (query_apply x0 x1 x2 x3 x4 x5 x6 x7 x8 x9 x10 x11 x12 x13 x14 x15 x16 x17 x18) (logit_apply x0 x1 x2 x3 x4 x5 x6 x7 x8 x9 x10 x11 x12 x13 x14 x15 x16 x17 x18) (top_apply x0 x1 x2 x3 x4 x5 x6 x7 x8 x9 x10 x11 x12 x13 x14 x15 x16 x17 x18) b
  unfold Gate.alphaOf
  rw [View.canon_cons_unit_lit _ _ _ (by decide)]
  simp (disch := decide) only [View.ld_unit_lit]
  pointwise [k0_pay11, k0_pay10]
  rw [hs]
  rfl

/-- The hidden layer's constant part: the static features' projection through the first layer, the layer's bias and the
    time projection's bias through the first layer. -/
theorem bias_apply (x0 : Vec Ideal S8x64 .f32) (x19 : Vec Ideal S1024x64 .f32) (x20 : Vec Ideal S1x1024 .f32)
    (x21 : Vec Ideal S512x3072 .f32) (x24 : Vec Ideal S1x1024 .f32) (x25 : Vec Ideal S1x512 .f32) (b : Fin 8) (j : Fin 512) :
    Gate.biasOf x0 x19 x20 x21 x24 x25 (ix2 b j)
      = (∑ d : Fin 1024, Spec.unit (fun k => x0 (ix2 b k)) (fun k => x19 (ix2 d k)) (x20 (ix2 0 d)) * x21 (ix2 j ⟨2048 + d.val, by omega⟩))
        + x25 (ix2 0 j) + ∑ d : Fin 1024, x24 (ix2 0 d) * x21 (ix2 j ⟨1024 + d.val, by omega⟩) := by
  unfold Gate.biasOf
  simp (disch := decide) only [View.ld_unit_lit]
  rw [View.canon_cons_unit_lit _ _ _ (by decide)]
  pointwise [k0_pay13, k0_pay12]
  rfl

/-- The time features' weights for the hidden layer: the time projection through the first layer. -/
theorem time_apply (x21 : Vec Ideal S512x3072 .f32) (x23 : Vec Ideal S1024x32 .f32) (j : Fin 512) (n : Fin 32) :
    Gate.timeOf x21 x23 (ix2 j n) = ∑ d : Fin 1024, x21 (ix2 j ⟨1024 + d.val, by omega⟩) * x23 (ix2 d n) := by
  unfold Gate.timeOf
  simp (disch := decide) only [View.ld_unit_lit]
  rw [View.canon_cons_unit_lit _ _ _ (by decide)]
  pointwise [k0_pay14, k0_pay12]

/-- The hidden states' weights: the first layer's first 1024 columns. -/
theorem first_apply (x21 : Vec Ideal S512x3072 .f32) (j : Fin 512) (k : Fin 1024) :
    Gate.firstOf x21 (ix2 j k) = x21 (ix2 j ⟨k.val, by omega⟩) := by
  unfold Gate.firstOf
  simp (disch := decide) only [View.ld_unit_lit]
  rw [View.canon_cons_unit_lit _ _ _ (by decide)]
  pointwise [k0_pay15]

/-- The second layer's weights, as they come. -/
theorem second_apply (x22 : Vec Ideal S1024x512 .f32) (d : Fin 1024) (j : Fin 512) :
    Gate.secondOf x22 (ix2 d j) = x22 (ix2 d j) := by
  unfold Gate.secondOf
  simp (disch := decide) only [View.ld_unit_lit]
  rw [View.canon_cons_unit_lit _ _ _ (by decide)]
  pointwise [k0_pay1]

end Cert.KernelIdeal.GateValue

end
-- ==== Proof.KernelIdeal.GateArrays.lean ====
/- The arrays the first region leaves: the gate, and the second region's operands, element by element. -/
module

public import proofs.«01_k».proof.Proof.KernelIdeal.Gate
public import proofs.«01_k».proof.Proof.KernelIdeal.GateValue

@[expose] public section

set_option maxRecDepth 16384

noncomputable section

namespace Cert.KernelIdeal.GateArrays

open Idealize.ShloMosaic Idealize.ShloMosaic.TcCoe Idealize.SL.Sem
open Idealize.ShloMosaic.Pipeline (Dat)
open Cert.KernelIdeal Cert.KernelIdeal.Gen Cert.KernelIdeal.Gate

variable (V : (c : Dev nD) → (b : Ref sig .tc) → Buf (Elt Ideal) ((c : Thread nD τ).loc b))

/-- Where the tiled windows' blocks lie: at the grid point. -/
theorem idx : ∀ t : Fin cfg0.N, win0_21.index t = ![t.val, 0] ∧ win0_22.index t = ![0, t.val] ∧ win0_25.index t = ![0, t.val] ∧ win0_27.index t = ![0, t.val] ∧ win0_28.index t = ![t.val, 0] ∧ win0_29.index t = ![t.val, 0] ∧ win0_30.index t = ![0, t.val] :=
  (by decide +kernel : ∀ t : Fin grid0.N, _)

/-! The other inputs come whole: the block of window `w` is its array, at every point. -/

/-- The block of window 0 is the whole array, at every step. -/
theorem at_0 : ∀ t : Fin cfg0.N, win0_0.index t = ![0, 0] := (by decide +kernel : ∀ t : Fin grid0.N, _)
/-- So that window 0 holds its whole array. -/
theorem blk_0 (c : Dev nD) (t : Fin cfg0.N) : blk0 V c 0 t = V c main_arg1 := by
  funext y
  idx_vars y
  blk_ext [blk0, at_0 t]
/-- The block of window 1 is the whole array, at every step. -/
theorem at_1 : ∀ t : Fin cfg0.N, win0_1.index t = ![0, 0] := (by decide +kernel : ∀ t : Fin grid0.N, _)
/-- So that window 1 holds its whole array. -/
theorem blk_1 (c : Dev nD) (t : Fin cfg0.N) : blk0 V c 1 t = V c main_arg3 := by
  funext y
  idx_vars y
  blk_ext [blk0, at_1 t]
/-- The block of window 2 is the whole array, at every step. -/
theorem at_2 : ∀ t : Fin cfg0.N, win0_2.index t = ![0, 0] := (by decide +kernel : ∀ t : Fin grid0.N, _)
/-- So that window 2 holds its whole array. -/
theorem blk_2 (c : Dev nD) (t : Fin cfg0.N) : blk0 V c 2 t = V c main_arg4 := by
  funext y
  idx_vars y
  blk_ext [blk0, at_2 t]
/-- The block of window 3 is the whole array, at every step. -/
theorem at_3 : ∀ t : Fin cfg0.N, win0_3.index t = ![0, 0] := (by decide +kernel : ∀ t : Fin grid0.N, _)
/-- So that window 3 holds its whole array. -/
theorem blk_3 (c : Dev nD) (t : Fin cfg0.N) : blk0 V c 3 t = V c main_v0 := by
  funext y
  idx_vars y
  blk_ext [blk0, at_3 t]
/-- The block of window 4 is the whole array, at every step. -/
theorem at_4 : ∀ t : Fin cfg0.N, win0_4.index t = ![0, 0] := (by decide +kernel : ∀ t : Fin grid0.N, _)
/-- So that window 4 holds its whole array. -/
theorem blk_4 (c : Dev nD) (t : Fin cfg0.N) : blk0 V c 4 t = V c main_arg6 := by
  funext y
  idx_vars y
  blk_ext [blk0, at_4 t]
/-- The block of window 5 is the whole array, at every step. -/
theorem at_5 : ∀ t : Fin cfg0.N, win0_5.index t = ![0, 0] := (by decide +kernel : ∀ t : Fin grid0.N, _)
/-- So that window 5 holds its whole array. -/
theorem blk_5 (c : Dev nD) (t : Fin cfg0.N) : blk0 V c 5 t = V c main_v1 := by
  funext y
  idx_vars y
  blk_ext [blk0, at_5 t]
/-- The block of window 6 is the whole array, at every step. -/
theorem at_6 : ∀ t : Fin cfg0.N, win0_6.index t = ![0, 0] := (by decide +kernel : ∀ t : Fin grid0.N, _)
/-- So that window 6 holds its whole array. -/
theorem blk_6 (c : Dev nD) (t : Fin cfg0.N) : blk0 V c 6 t = V c main_v2 := by
  funext y
  idx_vars y
  blk_ext [blk0, at_6 t]
/-- The block of window 7 is the whole array, at every step. -/
theorem at_7 : ∀ t : Fin cfg0.N, win0_7.index t = ![0, 0] := (by decide +kernel : ∀ t : Fin grid0.N, _)
/-- So that window 7 holds its whole array. -/
theorem blk_7 (c : Dev nD) (t : Fin cfg0.N) : blk0 V c 7 t = V c main_v3 := by
  funext y
  idx_vars y
  blk_ext [blk0, at_7 t]
/-- The block of window 8 is the whole array, at every step. -/
theorem at_8 : ∀ t : Fin cfg0.N, win0_8.index t = ![0, 0] := (by decide +kernel : ∀ t : Fin grid0.N, _)
/-- So that window 8 holds its whole array. -/
theorem blk_8 (c : Dev nD) (t : Fin cfg0.N) : blk0 V c 8 t = V c main_v5 := by
  funext y
  idx_vars y
  blk_ext [blk0, at_8 t]
/-- The block of window 9 is the whole array, at every step. -/
theorem at_9 : ∀ t : Fin cfg0.N, win0_9.index t = ![0, 0] := (by decide +kernel : ∀ t : Fin grid0.N, _)
/-- So that window 9 holds its whole array. -/
theorem blk_9 (c : Dev nD) (t : Fin cfg0.N) : blk0 V c 9 t = V c main_v6 := by
  funext y
  idx_vars y
  blk_ext [blk0, at_9 t]
/-- The block of window 10 is the whole array, at every step. -/
theorem at_10 : ∀ t : Fin cfg0.N, win0_10.index t = ![0, 0] := (by decide +kernel : ∀ t : Fin grid0.N, _)
/-- So that window 10 holds its whole array. -/
theorem blk_10 (c : Dev nD) (t : Fin cfg0.N) : blk0 V c 10 t = V c main_arg10 := by
  funext y
  idx_vars y
  blk_ext [blk0, at_10 t]
/-- The block of window 11 is the whole array, at every step. -/
theorem at_11 : ∀ t : Fin cfg0.N, win0_11.index t = ![0, 0] := (by decide +kernel : ∀ t : Fin grid0.N, _)
/-- So that window 11 holds its whole array. -/
theorem blk_11 (c : Dev nD) (t : Fin cfg0.N) : blk0 V c 11 t = V c main_v7 := by
  funext y
  idx_vars y
  blk_ext [blk0, at_11 t]
/-- The block of window 12 is the whole array, at every step. -/
theorem at_12 : ∀ t : Fin cfg0.N, win0_12.index t = ![0, 0] := (by decide +kernel : ∀ t : Fin grid0.N, _)
/-- So that window 12 holds its whole array. -/
theorem blk_12 (c : Dev nD) (t : Fin cfg0.N) : blk0 V c 12 t = V c main_arg12 := by
  funext y
  idx_vars y
  blk_ext [blk0, at_12 t]
/-- The block of window 13 is the whole array, at every step. -/
theorem at_13 : ∀ t : Fin cfg0.N, win0_13.index t = ![0, 0] := (by decide +kernel : ∀ t : Fin grid0.N, _)
/-- So that window 13 holds its whole array. -/
theorem blk_13 (c : Dev nD) (t : Fin cfg0.N) : blk0 V c 13 t = V c main_v8 := by
  funext y
  idx_vars y
  blk_ext [blk0, at_13 t]
/-- The block of window 14 is the whole array, at every step. -/
theorem at_14 : ∀ t : Fin cfg0.N, win0_14.index t = ![0, 0] := (by decide +kernel : ∀ t : Fin grid0.N, _)
/-- So that window 14 holds its whole array. -/
theorem blk_14 (c : Dev nD) (t : Fin cfg0.N) : blk0 V c 14 t = V c main_v9 := by
  funext y
  idx_vars y
  blk_ext [blk0, at_14 t]
/-- The block of window 15 is the whole array, at every step. -/
theorem at_15 : ∀ t : Fin cfg0.N, win0_15.index t = ![0, 0] := (by decide +kernel : ∀ t : Fin grid0.N, _)
/-- So that window 15 holds its whole array. -/
theorem blk_15 (c : Dev nD) (t : Fin cfg0.N) : blk0 V c 15 t = V c main_v10 := by
  funext y
  idx_vars y
  blk_ext [blk0, at_15 t]
/-- The block of window 16 is the whole array, at every step. -/
theorem at_16 : ∀ t : Fin cfg0.N, win0_16.index t = ![0, 0] := (by decide +kernel : ∀ t : Fin grid0.N, _)
/-- So that window 16 holds its whole array. -/
theorem blk_16 (c : Dev nD) (t : Fin cfg0.N) : blk0 V c 16 t = V c main_v11 := by
  funext y
  idx_vars y
  blk_ext [blk0, at_16 t]
/-- The block of window 17 is the whole array, at every step. -/
theorem at_17 : ∀ t : Fin cfg0.N, win0_17.index t = ![0, 0] := (by decide +kernel : ∀ t : Fin grid0.N, _)
/-- So that window 17 holds its whole array. -/
theorem blk_17 (c : Dev nD) (t : Fin cfg0.N) : blk0 V c 17 t = V c main_v12 := by
  funext y
  idx_vars y
  blk_ext [blk0, at_17 t]
/-- The block of window 18 is the whole array, at every step. -/
theorem at_18 : ∀ t : Fin cfg0.N, win0_18.index t = ![0, 0] := (by decide +kernel : ∀ t : Fin grid0.N, _)
/-- So that window 18 holds its whole array. -/
theorem blk_18 (c : Dev nD) (t : Fin cfg0.N) : blk0 V c 18 t = V c main_v13 := by
  funext y
  idx_vars y
  blk_ext [blk0, at_18 t]
/-- The block of window 19 is the whole array, at every step. -/
theorem at_19 : ∀ t : Fin cfg0.N, win0_19.index t = ![0, 0] := (by decide +kernel : ∀ t : Fin grid0.N, _)
/-- So that window 19 holds its whole array. -/
theorem blk_19 (c : Dev nD) (t : Fin cfg0.N) : blk0 V c 19 t = V c main_arg20 := by
  funext y
  idx_vars y
  blk_ext [blk0, at_19 t]
/-- The block of window 20 is the whole array, at every step. -/
theorem at_20 : ∀ t : Fin cfg0.N, win0_20.index t = ![0, 0] := (by decide +kernel : ∀ t : Fin grid0.N, _)
/-- So that window 20 holds its whole array. -/
theorem blk_20 (c : Dev nD) (t : Fin cfg0.N) : blk0 V c 20 t = V c main_v14 := by
  funext y
  idx_vars y
  blk_ext [blk0, at_20 t]
/-- The block of window 23 is the whole array, at every step. -/
theorem at_23 : ∀ t : Fin cfg0.N, win0_23.index t = ![0, 0] := (by decide +kernel : ∀ t : Fin grid0.N, _)
/-- So that window 23 holds its whole array. -/
theorem blk_23 (c : Dev nD) (t : Fin cfg0.N) : blk0 V c 23 t = V c main_arg18 := by
  funext y
  idx_vars y
  blk_ext [blk0, at_23 t]
/-- The block of window 24 is the whole array, at every step. -/
theorem at_24 : ∀ t : Fin cfg0.N, win0_24.index t = ![0, 0] := (by decide +kernel : ∀ t : Fin grid0.N, _)
/-- So that window 24 holds its whole array. -/
theorem blk_24 (c : Dev nD) (t : Fin cfg0.N) : blk0 V c 24 t = V c main_v15 := by
  funext y
  idx_vars y
  blk_ext [blk0, at_24 t]

/-- The hidden-state weights. -/
theorem first_arr (c : Dev nD) (j : Fin 2048) (k : Fin 1024) :
    (dat0 V c).arrAt 29 cfg0.N (ix2 j k) = V c main_arg22 (ix2 j ⟨k.val, by omega⟩) := by
  have h : (dat0 V c).arrAt 29 cfg0.N = fun i : S2048x1024.Idx => V c main_arg22 (ix2 (i 0) ⟨(i 1).val, by have := (i 1).isLt; dsimp at this; omega⟩) := by
    refine (dat0 V c).arrAt_eq_of_covers 29 _ (by decide +kernel) fun t _ y => ?_
    blk_simp
    rw [after0_29]
    idx_vars y
    refine (GateValue.first_apply _ _ _).trans ?_
    blk_ext [blk0, idx t]
  rw [h]; rfl

/-- The second layer's weights. -/
theorem second_arr (c : Dev nD) (d : Fin 1024) (j : Fin 2048) :
    (dat0 V c).arrAt 30 cfg0.N (ix2 d j) = V c main_arg24 (ix2 d j) := by
  have h : (dat0 V c).arrAt 30 cfg0.N = fun i : S1024x2048.Idx => V c main_arg24 (ix2 (i 0) (i 1)) := by
    refine (dat0 V c).arrAt_eq_of_covers 30 _ (by decide +kernel) fun t _ y => ?_
    blk_simp
    rw [after0_30]
    idx_vars y
    refine (GateValue.second_apply _ _ _).trans ?_
    blk_ext [blk0, idx t]
  rw [h]; rfl

/-- The weight of time feature `n` in hidden unit `j`: the time projection `T` through the first layer `C`. -/
def timeSum (C : Vec Ideal S2048x3072 .f32) (T : Vec Ideal S1024x32 .f32) (j : Fin 2048) (n : Fin 32) : EReal :=
  ∑ d : Fin 1024, C (ix2 j ⟨1024 + d.val, by omega⟩) * T (ix2 d n)

/-- The time features' weights. -/
theorem time_arr (c : Dev nD) (j : Fin 2048) (n : Fin 32) :
    (dat0 V c).arrAt 28 cfg0.N (ix2 j n) = timeSum (V c main_arg22) (V c main_arg18) j n := by
  have h : (dat0 V c).arrAt 28 cfg0.N = fun i : S2048x32.Idx => timeSum (V c main_arg22) (V c main_arg18) (i 0) (i 1) := by
    refine (dat0 V c).arrAt_eq_of_covers 28 _ (by decide +kernel) fun t _ y => ?_
    blk_simp
    rw [after0_28, blk_23]
    idx_vars y
    refine (GateValue.time_apply _ _ _ _).trans ?_
    unfold timeSum
    blk_point [blk0, idx t]
  rw [h]; rfl

/-- The constant part of hidden unit `j` for batch row `b`: the static features' projection through the first layer `C`,
    the layer's bias, and the time projection's bias through the first layer. -/
def biasSum (S : Vec Ideal S8x64 .f32) (Ws : Vec Ideal S1024x64 .f32) (bs : Vec Ideal S1x1024 .f32) (C : Vec Ideal S2048x3072 .f32)
    (bt : Vec Ideal S1x1024 .f32) (bc : Vec Ideal S1x2048 .f32) (b : Fin 8) (j : Fin 2048) : EReal :=
  (∑ d : Fin 1024, Spec.unit (fun k => S (ix2 b k)) (fun k => Ws (ix2 d k)) (bs (ix2 0 d)) * C (ix2 j ⟨2048 + d.val, by omega⟩))
    + bc (ix2 0 j) + ∑ d : Fin 1024, bt (ix2 0 d) * C (ix2 j ⟨1024 + d.val, by omega⟩)

/-- The hidden layer's constant part. -/
theorem bias_arr (c : Dev nD) (b : Fin 8) (j : Fin 2048) :
    (dat0 V c).arrAt 27 cfg0.N (ix2 b j)
      = biasSum (V c main_arg1) (V c main_arg20) (V c main_v14) (V c main_arg22) (V c main_v15) (V c main_v16) b j := by
  have h : (dat0 V c).arrAt 27 cfg0.N = fun i : S8x2048.Idx =>
      biasSum (V c main_arg1) (V c main_arg20) (V c main_v14) (V c main_arg22) (V c main_v15) (V c main_v16) (i 0) (i 1) := by
    refine (dat0 V c).arrAt_eq_of_covers 27 _ (by decide +kernel) fun t _ y => ?_
    blk_simp
    rw [after0_27, blk_0, blk_19, blk_20, blk_24]
    idx_vars y
    refine (GateValue.bias_apply _ _ _ _ _ _ _ _).trans ?_
    unfold biasSum Spec.unit
    blk_point [blk0, idx t]
    congr 1
    blk_ext [idx t]
  rw [h]; rfl

/-- The window of the gate lies at the origin. -/
theorem at_26 : ∀ t : Fin cfg0.N, win0_26.index t = ![0, 0] := (by decide +kernel : ∀ t : Fin grid0.N, _)

/-- The gate the region computes, element by element. -/
theorem gate0_apply (c : Dev nD) (b : Fin 8) (l : Fin 128) :
    gate0 V c (ix2 b l) = (GateValue.ofBlocks (V c main_arg1) (V c main_arg3) (V c main_arg4) (V c main_v0) (V c main_arg6) (V c main_v1) (V c main_v2) (V c main_v3) (V c main_v5) (V c main_v6) (V c main_arg10) (V c main_v7) (V c main_arg12) (V c main_v8) (V c main_v9) (V c main_v10) (V c main_v11) (V c main_v12) (V c main_v13)).gate b := by
  unfold gate0
  rw [blk_0, blk_1, blk_2, blk_3, blk_4, blk_5, blk_6, blk_7, blk_8, blk_9, blk_10, blk_11, blk_12, blk_13, blk_14, blk_15, blk_16, blk_17, blk_18]
  exact GateValue.alpha_apply _ _ _ _ _ _ _ _ _ _ _ _ _ _ _ _ _ _ _ b l

/-- The gate. -/
theorem gate_arr (c : Dev nD) (b : Fin 8) (l : Fin 128) :
    (dat0 V c).arrAt 26 cfg0.N (ix2 b l) = gate0 V c (ix2 b l) := by
  have h : (dat0 V c).arrAt 26 cfg0.N = gate0 V c := by
    refine (dat0 V c).arrAt_eq_of_covers 26 _ (by decide +kernel) fun t _ y => ?_
    blk_simp
    rw [after0_26]
    blk_ext [at_26 t]
  rw [h]

end Cert.KernelIdeal.GateArrays
end
-- ==== Proof.KernelIdeal.MlpValue.lean ====
/- What the second region's body stores, element by element: each token with its gated, normalised correction. -/
module

public import proofs.«01_k».proof.Proof.KernelIdeal.Mlp
public import proofs.«01_k».proof.Proof.Spec
public import Idealize.ShloMosaic.Lib.Pointwise
public import Idealize.ShloMosaic.Lib.Pipeline.ValueKit

@[expose] public section

set_option maxRecDepth 16384

noncomputable section

namespace Cert.KernelIdeal.MlpValue

open Idealize.ShloMosaic Idealize.ShloMosaic.TcCoe
open Cert.KernelIdeal Cert.KernelIdeal.Gen Cert.KernelIdeal.Mlp

/-- Token `r`'s inputs as the second region's windows hold them. -/
abbrev ofBlocks (x0 : Vec Ideal S1x2048x1024 .f32) (x1 : Vec Ideal S1x2048x32 .f32) (x2 : Vec Ideal S1x1x128 .f32) (x3 : Vec Ideal S1x1x2048 .f32) (x4 : Vec Ideal S2048x1024 .bf16) (x5 : Vec Ideal S2048x32 .bf16) (x6 : Vec Ideal S1024x2048 .bf16) (x7 : Vec Ideal S1x1024 .f32) (x8 : Vec Ideal S1x1024 .f32) (x9 : Vec Ideal S1x1024 .f32) (r : Fin 2048) : Spec.Token where
  h k := x0 (ix3 0 r k)
  tm n := x1 (ix3 0 r n)
  W1 j k := x4 (ix2 j k)
  Wt j n := x5 (ix2 j n)
  bias j := x3 (ix3 0 0 j)
  W2 d j := x6 (ix2 d j)
  b2 d := x7 (ix2 0 d)
  g d := x8 (ix2 0 d)
  b d := x9 (ix2 0 d)
  alpha := x2 (ix3 0 0 0)

variable (x0 : Vec Ideal S1x2048x1024 .f32) (x1 : Vec Ideal S1x2048x32 .f32) (x2 : Vec Ideal S1x1x128 .f32) (x3 : Vec Ideal S1x1x2048 .f32) (x4 : Vec Ideal S2048x1024 .bf16) (x5 : Vec Ideal S2048x32 .bf16) (x6 : Vec Ideal S1024x2048 .bf16) (x7 : Vec Ideal S1x1024 .f32) (x8 : Vec Ideal S1x1024 .f32) (x9 : Vec Ideal S1x1024 .f32)

/-- Tokens 0 to 511. -/
theorem tokens0_apply (r : Fin 512) (d : Fin 1024) :
    tokens0 x0 x1 x2 x3 x4 x5 x6 x7 x8 x9 (ix3 0 r d) = (ofBlocks x0 x1 x2 x3 x4 x5 x6 x7 x8 x9 ⟨r.val, by omega⟩).result d := by
  unfold tokens0
  simp (disch := decide) only [View.ld_unit_lit]
  pointwise [k1_pay4, k1_pay3, k1_pay5, k1_pay11, k1_pay6, k1_pay8, k1_pay7, k1_pay2, k1_pay9, k1_pay10]
  rfl

/-- Tokens 512 to 1023. -/
theorem tokens1_apply (r : Fin 512) (d : Fin 1024) :
    tokens1 x0 x1 x2 x3 x4 x5 x6 x7 x8 x9 (ix3 0 r d) = (ofBlocks x0 x1 x2 x3 x4 x5 x6 x7 x8 x9 ⟨512 + r.val, by omega⟩).result d := by
  unfold tokens1
  simp (disch := decide) only [View.ld_unit_lit]
  pointwise [k1_pay2, k1_pay3, k1_pay4, k1_pay5, k1_pay12, k1_pay13, k1_pay14, k1_pay15, k1_pay16, k1_pay17, k1_pay18]
  rfl

/-- Tokens 1024 to 1535. -/
theorem tokens2_apply (r : Fin 512) (d : Fin 1024) :
    tokens2 x0 x1 x2 x3 x4 x5 x6 x7 x8 x9 (ix3 0 r d) = (ofBlocks x0 x1 x2 x3 x4 x5 x6 x7 x8 x9 ⟨1024 + r.val, by omega⟩).result d := by
  unfold tokens2
  simp (disch := decide) only [View.ld_unit_lit]
  pointwise [k1_pay2, k1_pay3, k1_pay4, k1_pay5, k1_pay19, k1_pay20, k1_pay21, k1_pay22]
  rfl

/-- Tokens 1536 to 2047. -/
theorem tokens3_apply (r : Fin 512) (d : Fin 1024) :
    tokens3 x0 x1 x2 x3 x4 x5 x6 x7 x8 x9 (ix3 0 r d) = (ofBlocks x0 x1 x2 x3 x4 x5 x6 x7 x8 x9 ⟨1536 + r.val, by omega⟩).result d := by
  unfold tokens3
  simp (disch := decide) only [View.ld_unit_lit]
  pointwise [k1_pay2, k1_pay3, k1_pay4, k1_pay5, k1_pay1, k1_pay23, k1_pay24, k1_pay25, k1_pay26, k1_pay27]
  rfl

/-- One batch row of the result, token by token. -/
theorem row_apply (r : Fin 2048) (d : Fin 1024) :
    rowOf x0 x1 x2 x3 x4 x5 x6 x7 x8 x9 (ix3 0 r d) = (ofBlocks x0 x1 x2 x3 x4 x5 x6 x7 x8 x9 r).result d := by
  unfold rowOf
  canon_tiles x h
  case piece0 =>
    have e : x = ix3 0 ⟨(x 1).val, x1_lt⟩ d := by
      funext a; fin_cases a <;> apply Fin.ext
      · exact Nat.lt_one_iff.1 x0_lt
      · rfl
      · exact h2.symm
    have er : (⟨1536 + (x 1).val, by omega⟩ : Fin 2048) = r := Fin.ext h1.symm
    rw [e]
    exact (tokens3_apply x0 x1 x2 x3 x4 x5 x6 x7 x8 x9 ⟨(x 1).val, x1_lt⟩ d).trans (by rw [← er])
  case piece1 =>
    have e : x = ix3 0 ⟨(x 1).val, x1_lt⟩ d := by
      funext a; fin_cases a <;> apply Fin.ext
      · exact Nat.lt_one_iff.1 x0_lt
      · rfl
      · exact h2.symm
    have er : (⟨1024 + (x 1).val, by omega⟩ : Fin 2048) = r := Fin.ext h1.symm
    rw [e]
    exact (tokens2_apply x0 x1 x2 x3 x4 x5 x6 x7 x8 x9 ⟨(x 1).val, x1_lt⟩ d).trans (by rw [← er])
  case piece2 =>
    have e : x = ix3 0 ⟨(x 1).val, x1_lt⟩ d := by
      funext a; fin_cases a <;> apply Fin.ext
      · exact Nat.lt_one_iff.1 x0_lt
      · rfl
      · exact h2.symm
    have er : (⟨512 + (x 1).val, by omega⟩ : Fin 2048) = r := Fin.ext h1.symm
    rw [e]
    exact (tokens1_apply x0 x1 x2 x3 x4 x5 x6 x7 x8 x9 ⟨(x 1).val, x1_lt⟩ d).trans (by rw [← er])
  case piece3 =>
    have e : x = ix3 0 ⟨(x 1).val, x1_lt⟩ d := by
      funext a; fin_cases a <;> apply Fin.ext
      · exact Nat.lt_one_iff.1 x0_lt
      · rfl
      · exact h2.symm
    have er : (⟨(x 1).val, by omega⟩ : Fin 2048) = r := Fin.ext h1.symm
    rw [e]
    exact (tokens0_apply x0 x1 x2 x3 x4 x5 x6 x7 x8 x9 ⟨(x 1).val, x1_lt⟩ d).trans (by rw [← er])

end Cert.KernelIdeal.MlpValue

end
-- ==== Proof.KernelIdeal.MlpArray.lean ====
/- The result array the second region leaves, element by element. -/
module

public import proofs.«01_k».proof.Proof.KernelIdeal.Mlp
public import proofs.«01_k».proof.Proof.KernelIdeal.MlpValue

@[expose] public section

set_option maxRecDepth 16384

noncomputable section

namespace Cert.KernelIdeal.MlpArray

open Idealize.ShloMosaic Idealize.ShloMosaic.TcCoe Idealize.SL.Sem
open Idealize.ShloMosaic.Pipeline (Dat)
open Cert.KernelIdeal Cert.KernelIdeal.Gen Cert.KernelIdeal.Mlp

variable (V : (c : Dev nD) → (b : Ref sig .tc) → Buf (Elt Ideal) ((c : Thread nD τ).loc b))

/-- Where the tiled windows' blocks lie: at the grid point's batch row. -/
theorem idx : ∀ t : Fin cfg1.N, win1_0.index t = ![t.val, 0, 0] ∧ win1_1.index t = ![t.val, 0, 0] ∧ win1_2.index t = ![t.val, 0, 0] ∧ win1_3.index t = ![t.val, 0, 0] ∧ win1_10.index t = ![t.val, 0, 0] :=
  (by decide +kernel : ∀ t : Fin grid1.N, _)

/-! The weights come whole: the block of window `w` is its array, at every point. -/

/-- The block of window 4 is the whole array, at every step. -/
theorem at_4 : ∀ t : Fin cfg1.N, win1_4.index t = ![0, 0] := (by decide +kernel : ∀ t : Fin grid1.N, _)
/-- So that window 4 holds its whole array. -/
theorem blk_4 (c : Dev nD) (t : Fin cfg1.N) : blk1 V c 4 t = V c main_v17_3 := by
  funext y
  idx_vars y
  blk_ext [blk1, at_4 t]
/-- The block of window 5 is the whole array, at every step. -/
theorem at_5 : ∀ t : Fin cfg1.N, win1_5.index t = ![0, 0] := (by decide +kernel : ∀ t : Fin grid1.N, _)
/-- So that window 5 holds its whole array. -/
theorem blk_5 (c : Dev nD) (t : Fin cfg1.N) : blk1 V c 5 t = V c main_v17_2 := by
  funext y
  idx_vars y
  blk_ext [blk1, at_5 t]
/-- The block of window 6 is the whole array, at every step. -/
theorem at_6 : ∀ t : Fin cfg1.N, win1_6.index t = ![0, 0] := (by decide +kernel : ∀ t : Fin grid1.N, _)
/-- So that window 6 holds its whole array. -/
theorem blk_6 (c : Dev nD) (t : Fin cfg1.N) : blk1 V c 6 t = V c main_v17_4 := by
  funext y
  idx_vars y
  blk_ext [blk1, at_6 t]
/-- The block of window 7 is the whole array, at every step. -/
theorem at_7 : ∀ t : Fin cfg1.N, win1_7.index t = ![0, 0] := (by decide +kernel : ∀ t : Fin grid1.N, _)
/-- So that window 7 holds its whole array. -/
theorem blk_7 (c : Dev nD) (t : Fin cfg1.N) : blk1 V c 7 t = V c main_v20 := by
  funext y
  idx_vars y
  blk_ext [blk1, at_7 t]
/-- The block of window 8 is the whole array, at every step. -/
theorem at_8 : ∀ t : Fin cfg1.N, win1_8.index t = ![0, 0] := (by decide +kernel : ∀ t : Fin grid1.N, _)
/-- So that window 8 holds its whole array. -/
theorem blk_8 (c : Dev nD) (t : Fin cfg1.N) : blk1 V c 8 t = V c main_v21 := by
  funext y
  idx_vars y
  blk_ext [blk1, at_8 t]
/-- The block of window 9 is the whole array, at every step. -/
theorem at_9 : ∀ t : Fin cfg1.N, win1_9.index t = ![0, 0] := (by decide +kernel : ∀ t : Fin grid1.N, _)
/-- So that window 9 holds its whole array. -/
theorem blk_9 (c : Dev nD) (t : Fin cfg1.N) : blk1 V c 9 t = V c main_v22 := by
  funext y
  idx_vars y
  blk_ext [blk1, at_9 t]

/-- The batch row of a grid point. -/
def batch (t : Fin cfg1.N) : Fin 8 := ⟨t.val, (by decide +kernel : ∀ t : Fin grid1.N, t.val < 8) t⟩

/-! The other inputs come one batch row at a time. -/

/-- Window 0 holds the token's batch row of hidden states. -/
theorem blk_0 (c : Dev nD) (t : Fin cfg1.N) (r : Fin 2048) (k : Fin 1024) : blk1 V c 0 t (ix3 0 r k) = V c main_arg0 (ix3 (batch t) r k) := by
  blk_ext [blk1, idx t, batch]
/-- Window 1 holds that row's time features. -/
theorem blk_1 (c : Dev nD) (t : Fin cfg1.N) (r : Fin 2048) (n : Fin 32) : blk1 V c 1 t (ix3 0 r n) = V c main_arg2 (ix3 (batch t) r n) := by
  blk_ext [blk1, idx t, batch]
/-- Window 2 holds that row's gate. -/
theorem blk_2 (c : Dev nD) (t : Fin cfg1.N) (l : Fin 128) : blk1 V c 2 t (ix3 0 0 l) = V c main_v18 (ix3 (batch t) 0 l) := by
  blk_ext [blk1, idx t, batch]
/-- Window 3 holds that row's constant part of the hidden layer. -/
theorem blk_3 (c : Dev nD) (t : Fin cfg1.N) (j : Fin 2048) : blk1 V c 3 t (ix3 0 0 j) = V c main_v19 (ix3 (batch t) 0 j) := by
  blk_ext [blk1, idx t, batch]

/-- Where an element of the result's block lies. -/
theorem place (t : Fin cfg1.N) (y0 : Fin 1) (y1 : Fin 2048) (y2 : Fin 1024) :
    ((View.whole main_v23).slice (win1_10.rect t)).emb (ix3 y0 y1 y2) = ix3 (batch t) y1 y2 := by
  funext a
  fin_cases a <;> apply Fin.ext <;> blk_simp [idx t, batch] <;> rfl

/-- Token `r` of batch row `b`, as the arrays the second region reads hold it. -/
abbrev ofArrays (A0 : Vec Ideal S8x2048x1024 .f32) (A1 : Vec Ideal S8x2048x32 .f32) (A2 : Vec Ideal S8x1x128 .f32) (A3 : Vec Ideal S8x1x2048 .f32) (A4 : Vec Ideal S2048x1024 .bf16) (A5 : Vec Ideal S2048x32 .bf16) (A6 : Vec Ideal S1024x2048 .bf16) (A7 A8 A9 : Vec Ideal S1x1024 .f32) (b : Fin 8) (r : Fin 2048) : Spec.Token where
  h k := A0 (ix3 b r k)
  tm n := A1 (ix3 b r n)
  W1 j k := A4 (ix2 j k)
  Wt j n := A5 (ix2 j n)
  bias j := A3 (ix3 b 0 j)
  W2 d j := A6 (ix2 d j)
  b2 d := A7 (ix2 0 d)
  g d := A8 (ix2 0 d)
  b d := A9 (ix2 0 d)
  alpha := A2 (ix3 b 0 0)

/-- The result. -/
theorem result_arr (c : Dev nD) (b : Fin 8) (r : Fin 2048) (d : Fin 1024) :
    (dat1 V c).arrAt 10 cfg1.N (ix3 b r d)
      = (ofArrays (V c main_arg0) (V c main_arg2) (V c main_v18) (V c main_v19) (V c main_v17_3) (V c main_v17_2) (V c main_v17_4) (V c main_v20) (V c main_v21) (V c main_v22) b r).result d := by
  have h : (dat1 V c).arrAt 10 cfg1.N = fun i : S8x2048x1024.Idx =>
      (ofArrays (V c main_arg0) (V c main_arg2) (V c main_v18) (V c main_v19) (V c main_v17_3) (V c main_v17_2) (V c main_v17_4) (V c main_v20) (V c main_v21) (V c main_v22) (i 0) (i 1)).result (i 2) := by
    refine (dat1 V c).arrAt_eq_of_covers 10 _ (by decide +kernel) fun t _ y => ?_
    blk_simp
    rw [after1_10, blk_4, blk_5, blk_6, blk_7, blk_8, blk_9]
    idx_vars y
    rw [place t y0 y1 y2]
    obtain rfl : y0 = 0 := Subsingleton.elim _ _
    refine (MlpValue.row_apply _ _ _ _ _ _ _ _ _ _ y1 y2).trans (congrArg (fun T : Spec.Token => T.result y2) ?_)
    unfold MlpValue.ofBlocks ofArrays
    simp only [blk_0, blk_1, blk_2, blk_3]
    rfl
  rw [h]; rfl

end Cert.KernelIdeal.MlpArray
end
-- ==== Proof.Literals.lean ====
/- The literals of the programs as the extended reals they denote. -/
module

public import Idealize.ShloMosaic.PureOps.Ideal

@[expose] public section

noncomputable section

namespace Cert.Literals

open Idealize.ShloMosaic

/-- The literal for a hundred and twenty-eight. -/
theorem lit_128 : Ideal.ofBits .f32 0x43000000#32 = ((128 : ℝ) : EReal) := by
  simp [Ideal.ofBits, Ideal.ieee, -EReal.coe_mul]; norm_num

/-- The literal for the width of the model. -/
theorem lit_1024 : Ideal.ofBits .f32 0x44800000#32 = ((1024 : ℝ) : EReal) := by
  simp [Ideal.ofBits, Ideal.ieee, -EReal.coe_mul]; norm_num

/-- The literal for one over the width is exact. -/
theorem lit_inv_1024 : Ideal.ofBits .f32 0x3A800000#32 = ((1 / 1024 : ℝ) : EReal) := by
  simp [Ideal.ofBits, Ideal.ieee, -EReal.coe_mul]; norm_num

/-- One half. -/
theorem lit_half : Ideal.ofBits .f32 0x3F000000#32 = ((1 / 2 : ℝ) : EReal) := by
  simp [Ideal.ofBits, Ideal.ieee, -EReal.coe_mul]; norm_num

/-- The factor inside the error function is a real number. -/
theorem lit_slope : ∃ r : ℝ, Ideal.ofBits .f32 0x3F3504F3#32 = (r : EReal) := by
  refine ⟨(11863283 / 16777216 : ℝ), ?_⟩
  simp [Ideal.ofBits, Ideal.ieee, -EReal.coe_mul]; norm_num

/-- The number added to the variance is a positive real number. -/
theorem lit_eps : ∃ r : ℝ, 0 < r ∧ Ideal.ofBits .f32 0x3727C5AC#32 = (r : EReal) := by
  refine ⟨(10995116 / 1099511627776 : ℝ), by norm_num, ?_⟩
  simp [Ideal.ofBits, Ideal.ieee, -EReal.coe_mul]; norm_num

end Cert.Literals

end
-- ==== Proof.RefGate.lean ====
/- The reference's gate, element by element: what its program computes for the gate is the formula. -/
module

public import proofs.«01_k».proof.Proof.Gen.ReferenceIdeal.Read
public import proofs.«01_k».proof.Proof.Spec
public import proofs.«01_k».proof.Proof.Literals
public import Idealize.ShloMosaic.Lib.Pointwise
public import Idealize.ShloMosaic.Lib.IdealHost

@[expose] public section

set_option maxRecDepth 16384

noncomputable section

namespace Cert.ReferenceIdeal.GateValue

open Idealize.ShloMosaic Idealize.ShloMosaic.TcCoe
open Cert.ReferenceIdeal Cert.ReferenceIdeal.Gen Cert.ReferenceIdeal.Read

/-- The gate's inputs out of the reference's arguments. -/
abbrev ofArgs (x1 : FVec Ideal S8x64 .f32) (x3 : FVec Ideal S256x64 .f32) (x4 : FVec Ideal S256x64 .f32) (x5 : FVec Ideal S256 .f32) (x6 : FVec Ideal S128x256 .f32) (x7 : FVec Ideal S128 .f32) (x8 : FVec Ideal S256x129 .f32) (x9 : FVec Ideal S256 .f32) (x10 : FVec Ideal S128x256 .f32) (x11 : FVec Ideal S128 .f32) (x12 : FVec Ideal S128x64 .f32) (x13 : FVec Ideal S128 .f32) (x14 : FVec Ideal S128x256 .f32) (x15 : FVec Ideal S128 .f32) (x16 : FVec Ideal S1x128 .f32) (x17 : FVec Ideal S1 .f32) : Spec.Gate where
  s b k := x1 (ix2 b k)
  bank n k := x3 (ix2 n k)
  Wq1 j k := x4 (ix2 j k)
  bq1 j := x5 (ix1 j)
  Wq2 j k := x6 (ix2 j k)
  bq2 j := x7 (ix1 j)
  Wa j k := x8 (ix2 j ⟨k.val, by omega⟩)
  Wb j k := x8 (ix2 j ⟨64 + k.val, by omega⟩)
  Wd j := x8 (ix2 j 128)
  br1 j := x9 (ix1 j)
  Wr2 j k := x10 (ix2 j k)
  br2 j := x11 (ix1 j)
  Wv j k := x12 (ix2 j k)
  bv j := x13 (ix1 j)
  Wq j k := x14 (ix2 j ⟨k.val, by omega⟩)
  Wz j k := x14 (ix2 j ⟨128 + k.val, by omega⟩)
  bo1 j := x15 (ix1 j)
  Wo2 j := x16 (ix2 0 j)
  bo2 := x17 (ix1 0)
  scale := (((Real.sqrt 128)⁻¹ : ℝ) : EReal)

variable (x1 : FVec Ideal S8x64 .f32) (x3 : FVec Ideal S256x64 .f32) (x4 : FVec Ideal S256x64 .f32) (x5 : FVec Ideal S256 .f32) (x6 : FVec Ideal S128x256 .f32) (x7 : FVec Ideal S128 .f32) (x8 : FVec Ideal S256x129 .f32) (x9 : FVec Ideal S256 .f32) (x10 : FVec Ideal S128x256 .f32) (x11 : FVec Ideal S128 .f32) (x12 : FVec Ideal S128x64 .f32) (x13 : FVec Ideal S128 .f32) (x14 : FVec Ideal S128x256 .f32) (x15 : FVec Ideal S128 .f32) (x16 : FVec Ideal S1x128 .f32) (x17 : FVec Ideal S1 .f32)

local notation "GG" => ofArgs x1 x3 x4 x5 x6 x7 x8 x9 x10 x11 x12 x13 x14 x15 x16 x17

/-- The reference writes the gaussian error unit with the complementary error function of the negated argument. -/
theorem gelu_erfc (z : EReal) : Spec.half * z * Ideal.erfc (-z * Spec.slope) = Spec.gelu z := by
  unfold Spec.gelu
  rw [EReal.neg_mul, Ideal.erfc_neg]

/-- The same with the literals as they are read. -/
theorem gelu_read (z : EReal) : Ideal.ofBits FTy.f32 1056964608#32 * z * Ideal.erfc (-z * Ideal.ofBits FTy.f32 1060439283#32) = Spec.gelu z :=
  gelu_erfc z

/-- The query. -/
theorem query_apply (b : Fin 8) (j : Fin 128) : val_main_v16 (F := Ideal) x1 x4 x5 x6 x7 (ix2 b j) = (GG).query b j := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  simp only [gelu_read]
  rfl

/-- The first layer on pairs: the reference contracts over the bank entry, the difference and the distance laid side by side. -/
theorem pair_apply (b : Fin 8) (n j : Fin 256) : val_main_v30 (F := Ideal) x1 x3 x8 x9 (ix3 b n j) = (GG).pair b n j := by
  pointwise [val_main_v30, val_main_v29, val_main_v28, val_main_v27, val_main_v26, val_main_v25, val_main_v24, val_main_v23, val_main_v22, val_main_v21, val_main_v20, val_main_v19, val_main_v18, val_main_v17, val_main_call0_v0, val_main_call0_v1, val_main_call0_v2, val_main_call0_cst]
  rw [Fin.sum_univ_two_halves 128 1 rfl, Fin.sum_univ_two_halves 64 64 rfl]
  unfold Spec.Gate.pair Spec.Gate.dist Spec.Gate.diff Spec.unit
  simp only [Fin.sum_univ_one]
  have a1 : ∀ x : Fin 64, x.val < 64 := fun x => x.isLt
  have a2 : ∀ x : Fin 64, ¬ 64 + x.val < 64 := fun x => by omega
  have a3 : ∀ x : Fin 64, 64 + x.val - 64 < 64 := fun x => by omega
  have a4 : ∀ x : Fin 64, 64 + x.val - 64 = x.val := fun x => by omega
  simp only [a1, a2, a3, a4, dite_true, dite_false, Fin.eta]
  rw [dif_neg (by decide), dif_neg (by decide), add_right_comm _ _ (x9 (ix1 j)), add_right_comm _ _ (x9 (ix1 j))]
  rfl

/-- The key. -/
theorem key_apply (b : Fin 8) (n : Fin 256) (j : Fin 128) : val_main_v42 (F := Ideal) x1 x3 x8 x9 x10 x11 (ix3 b n j) = (GG).key b n j := by
  have h := pair_apply x1 x3 x4 x5 x6 x7 x8 x9 x10 x11 x12 x13 x14 x15 x16 x17
  pointwise [val_main_v42, val_main_v41, val_main_v40, val_main_v39, val_main_v38, val_main_v37, val_main_v36, val_main_v35, val_main_v34, val_main_v33, val_main_v32, val_main_v31, val_main_cst_1, val_main_cst_2]
  simp only [h, gelu_read]
  rfl

/-- The logit: dividing by the root of 128 is multiplying by its inverse. -/
theorem logit_apply (b : Fin 8) (n : Fin 256) : val_main_v46 (F := Ideal) x1 x3 x4 x5 x6 x7 x8 x9 x10 x11 (ix2 b n) = (GG).logit b n := by
  have h := key_apply x1 x3 x4 x5 x6 x7 x8 x9 x10 x11 x12 x13 x14 x15 x16 x17
  have h' := query_apply x1 x3 x4 x5 x6 x7 x8 x9 x10 x11 x12 x13 x14 x15 x16 x17
  pointwise [val_main_v46, val_main_v45, val_main_v44, val_main_v43, val_main_cst_3]
  simp only [h, h']
  rw [Literals.lit_128, Ideal.sqrt_coe, if_neg (by norm_num), Ideal.div_coe (by positivity)]
  unfold Spec.Gate.logit
  rw [one_div]

/-- The largest logit. -/
theorem top_apply (b : Fin 8) : val_main_v49 (F := Ideal) x1 x3 x4 x5 x6 x7 x8 x9 x10 x11 (ix1 b) = (GG).top b := by
  have h := logit_apply x1 x3 x4 x5 x6 x7 x8 x9 x10 x11 x12 x13 x14 x15 x16 x17
  pointwise [val_main_v49, val_main_v48, val_main_v47, val_main_cst_4, val_main_cst_5]
  simp only [h]
  rfl

/-- The attended value. -/
theorem value_apply (b : Fin 8) (j : Fin 128) : val_main_v63 (F := Ideal) x1 x3 x4 x5 x6 x7 x8 x9 x10 x11 x12 x13 (ix2 b j) = (GG).value b j := by
  have h := logit_apply x1 x3 x4 x5 x6 x7 x8 x9 x10 x11 x12 x13 x14 x15 x16 x17
  have h' := top_apply x1 x3 x4 x5 x6 x7 x8 x9 x10 x11 x12 x13 x14 x15 x16 x17
  pointwise [val_main_v63, val_main_v62, val_main_v61, val_main_v60, val_main_v59, val_main_v58, val_main_v57, val_main_v56, val_main_v55, val_main_v54, val_main_cst_6, val_main_v53, val_main_v52, val_main_v51, val_main_v50]
  simp only [h, h']
  rfl

/-- The first layer after the attention: the reference contracts over the query and the value laid side by side. -/
theorem mixed_apply (b : Fin 8) (j : Fin 128) : val_main_v69 (F := Ideal) x1 x3 x4 x5 x6 x7 x8 x9 x10 x11 x12 x13 x14 x15 (ix2 b j) = (GG).mixed b j := by
  have h := value_apply x1 x3 x4 x5 x6 x7 x8 x9 x10 x11 x12 x13 x14 x15 x16 x17
  have h' := query_apply x1 x3 x4 x5 x6 x7 x8 x9 x10 x11 x12 x13 x14 x15 x16 x17
  pointwise [val_main_v69, val_main_v68, val_main_v67, val_main_v66, val_main_v65, val_main_v64]
  simp only [h, h']
  rfl

/-- The gate. -/
theorem gate_apply (b : Fin 8) : val_main_v88 (F := Ideal) x1 x3 x4 x5 x6 x7 x8 x9 x10 x11 x12 x13 x14 x15 x16 x17 (ix3 b 0 0) = (GG).gate b := by
  have h := mixed_apply x1 x3 x4 x5 x6 x7 x8 x9 x10 x11 x12 x13 x14 x15 x16 x17
  pointwise [val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_cst_7, val_main_cst_8, val_main_cst_9, val_main_cst_10]
  simp only [h, gelu_read]
  rfl

end Cert.ReferenceIdeal.GateValue

end
-- ==== Proof.RefMain.lean ====
/- The reference's correction network, element by element: what its program computes is the formula. -/
module

public import proofs.«01_k».proof.Proof.RefGate

@[expose] public section

set_option maxRecDepth 16384

noncomputable section

namespace Cert.ReferenceIdeal.MainValue

open Idealize.ShloMosaic Idealize.ShloMosaic.TcCoe
open Cert.ReferenceIdeal Cert.ReferenceIdeal.Gen Cert.ReferenceIdeal.Read

/-- The network's inputs out of the reference's arguments. -/
abbrev ofArgs (x0 : FVec Ideal S8x2048x1024 .f32) (x1 : FVec Ideal S8x64 .f32) (x2 : FVec Ideal S8x2048x32 .f32) (x18 : FVec Ideal S1024x32 .f32) (x19 : FVec Ideal S1024 .f32) (x20 : FVec Ideal S1024x64 .f32) (x21 : FVec Ideal S1024 .f32) (x22 : FVec Ideal S2048x3072 .f32) (x23 : FVec Ideal S2048 .f32) (x24 : FVec Ideal S1024x2048 .f32) (x25 : FVec Ideal S1024 .f32) (x26 : FVec Ideal S1024 .f32) (x27 : FVec Ideal S1024 .f32) : Spec.Net where
  h r t k := x0 (ix3 r t k)
  s r k := x1 (ix2 r k)
  tm r t n := x2 (ix3 r t n)
  Wt d n := x18 (ix2 d n)
  bt d := x19 (ix1 d)
  Ws d k := x20 (ix2 d k)
  bs d := x21 (ix1 d)
  C j k := x22 (ix2 j k)
  bc j := x23 (ix1 j)
  W2 d j := x24 (ix2 d j)
  b2 d := x25 (ix1 d)
  g d := x26 (ix1 d)
  b d := x27 (ix1 d)

variable (x0 : FVec Ideal S8x2048x1024 .f32) (x1 : FVec Ideal S8x64 .f32) (x2 : FVec Ideal S8x2048x32 .f32) (x18 : FVec Ideal S1024x32 .f32) (x19 : FVec Ideal S1024 .f32) (x20 : FVec Ideal S1024x64 .f32) (x21 : FVec Ideal S1024 .f32) (x22 : FVec Ideal S2048x3072 .f32) (x23 : FVec Ideal S2048 .f32) (x24 : FVec Ideal S1024x2048 .f32) (x25 : FVec Ideal S1024 .f32) (x26 : FVec Ideal S1024 .f32) (x27 : FVec Ideal S1024 .f32)

local notation "NN" => ofArgs x0 x1 x2 x18 x19 x20 x21 x22 x23 x24 x25 x26 x27

/-- The projected time features. -/
theorem time_apply (r : Fin 8) (t : Fin 2048) (d : Fin 1024) : val_main_v93 (F := Ideal) x2 x18 x19 (ix3 r t d) = (NN).time r t d := by
  pointwise [val_main_v93, val_main_v92, val_main_v91, val_main_v90, val_main_v89]
  rfl

/-- The projected static features. -/
theorem static_apply (r : Fin 8) (t : Fin 2048) (d : Fin 1024) : val_main_v100 (F := Ideal) x1 x20 x21 (ix3 r t d) = (NN).static r d := by
  pointwise [val_main_v100, val_main_v99, val_main_v98, val_main_v97, val_main_v96, val_main_v95, val_main_v94]
  rfl

/-- The hidden layer: the reference contracts over the three inputs laid side by side. -/
theorem hidden_apply (r : Fin 8) (t : Fin 2048) (j : Fin 2048) : val_main_v106 (F := Ideal) x0 x1 x2 x18 x19 x20 x21 x22 x23 (ix3 r t j) = (NN).hidden r t j := by
  have h1 := time_apply x0 x1 x2 x18 x19 x20 x21 x22 x23 x24 x25 x26 x27
  have h2 := static_apply x0 x1 x2 x18 x19 x20 x21 x22 x23 x24 x25 x26 x27
  pointwise [val_main_v106, val_main_v105, val_main_v104, val_main_v103, val_main_v102, val_main_v101]
  rw [Fin.sum_univ_two_halves 1024 2048 rfl, Fin.sum_univ_two_halves 1024 1024 rfl]
  have a1 : ∀ x : Fin 1024, x.val < 1024 := fun x => x.isLt
  have a2 : ∀ x : Fin 1024, ¬ (1024 + x.val < 1024) := fun x => by omega
  have a3 : ∀ x : Fin 1024, 1024 + x.val - 1024 = x.val := fun x => by omega
  have a4 : ∀ x : Fin 1024, ¬ (1024 + (1024 + x.val) < 1024) := fun x => by omega
  have a5 : ∀ x : Fin 1024, 1024 + (1024 + x.val) - 1024 = 1024 + x.val := fun x => by omega
  simp only [a1, a2, a3, a4, a5, dite_true, dite_false, Fin.eta, h1, h2]
  rfl

/-- The correction. -/
theorem corr_apply (r : Fin 8) (t : Fin 2048) (d : Fin 1024) : val_main_v118 (F := Ideal) x0 x1 x2 x18 x19 x20 x21 x22 x23 x24 x25 (ix3 r t d) = (NN).corr r t d := by
  have h := hidden_apply x0 x1 x2 x18 x19 x20 x21 x22 x23 x24 x25 x26 x27
  pointwise [val_main_v118, val_main_v117, val_main_v116, val_main_v115, val_main_v114, val_main_v113, val_main_v112, val_main_v111, val_main_v110, val_main_v109, val_main_v108, val_main_v107, val_main_cst_11, val_main_cst_12]
  simp only [h, GateValue.gelu_read]
  rfl

/-- Its mean. -/
theorem mean_apply (r : Fin 8) (t : Fin 2048) : val_main_v122 (F := Ideal) x0 x1 x2 x18 x19 x20 x21 x22 x23 x24 x25 (ix3 r t 0) = (NN).mean r t := by
  have h := corr_apply x0 x1 x2 x18 x19 x20 x21 x22 x23 x24 x25 x26 x27
  pointwise [val_main_v122, val_main_v121, val_main_v120, val_main_v119, val_main_cst_13, val_main_cst_14]
  simp only [h]
  rfl

/-- The number of summands the variance divides by: the width, which is positive. -/
theorem count_apply (i : S_.Idx) : val_main_call1_v8 (F := Ideal) i = Spec.width := by
  pointwise [val_main_call1_v8, val_main_call1_v7, val_main_call1_cst_1, val_main_c]
  have z : (FloatOps.sitofp FTy.f32 (0#32) : Ideal .f32) = (0 : EReal) := by
    show (((0#32 : BitVec 32).toInt : ℝ) : EReal) = 0
    norm_num
  rw [z, sub_zero]

/-- That number is compared with zero. -/
theorem positive_apply (i : S_.Idx) : val_main_call1_v13 (F := Ideal) i = 1#1 := by
  have h := count_apply
  pointwise [val_main_call1_v13, val_main_call1_cst_3]
  rw [h, decide_eq_true (by show (0 : EReal) < Ideal.ofBits .f32 0x44800000#32; rw [Literals.lit_1024]; exact_mod_cast (by norm_num : (0 : ℝ) < 1024))]
  rfl

/-- The mean of the squared deviations. -/
theorem spread_apply (r : Fin 8) (t : Fin 2048) : val_main_v123 (F := Ideal) x0 x1 x2 x18 x19 x20 x21 x22 x23 x24 x25 (ix3 r t 0) = (NN).spread r t := by
  have h := corr_apply x0 x1 x2 x18 x19 x20 x21 x22 x23 x24 x25 x26 x27
  have h1 := count_apply
  have h2 := positive_apply
  pointwise [val_main_v123, val_main_call1_v12, val_main_call1_v11, val_main_call1_v10, val_main_call1_v9, val_main_call1_v6, val_main_call1_v5, val_main_call1_v4, val_main_call1_v3, val_main_call1_v2, val_main_call1_v1, val_main_call1_v0, val_main_call1_cst, val_main_call1_cst_0, val_main_call1_cst_2]
  simp only [h, h1, h2]
  rfl

variable (x3 : FVec Ideal S256x64 .f32) (x4 : FVec Ideal S256x64 .f32) (x5 : FVec Ideal S256 .f32) (x6 : FVec Ideal S128x256 .f32) (x7 : FVec Ideal S128 .f32) (x8 : FVec Ideal S256x129 .f32) (x9 : FVec Ideal S256 .f32) (x10 : FVec Ideal S128x256 .f32) (x11 : FVec Ideal S128 .f32) (x12 : FVec Ideal S128x64 .f32) (x13 : FVec Ideal S128 .f32) (x14 : FVec Ideal S128x256 .f32) (x15 : FVec Ideal S128 .f32) (x16 : FVec Ideal S1x128 .f32) (x17 : FVec Ideal S1 .f32)

/-- The result. -/
theorem result_apply (r : Fin 8) (t : Fin 2048) (d : Fin 1024) :
    val_main_v139 (F := Ideal) x0 x1 x2 x3 x4 x5 x6 x7 x8 x9 x10 x11 x12 x13 x14 x15 x16 x17 x18 x19 x20 x21 x22 x23 x24 x25 x26 x27 (ix3 r t d)
      = (NN).result (GateValue.ofArgs x1 x3 x4 x5 x6 x7 x8 x9 x10 x11 x12 x13 x14 x15 x16 x17).gate r t d := by
  have h := corr_apply x0 x1 x2 x18 x19 x20 x21 x22 x23 x24 x25 x26 x27
  have h1 := mean_apply x0 x1 x2 x18 x19 x20 x21 x22 x23 x24 x25 x26 x27
  have h2 := spread_apply x0 x1 x2 x18 x19 x20 x21 x22 x23 x24 x25 x26 x27
  have h3 := GateValue.gate_apply x1 x3 x4 x5 x6 x7 x8 x9 x10 x11 x12 x13 x14 x15 x16 x17
  pointwise [val_main_v139, val_main_v138, val_main_v137, val_main_v136, val_main_v135, val_main_v134, val_main_v133, val_main_v132, val_main_v131, val_main_v130, val_main_v129, val_main_v128, val_main_v127, val_main_v126, val_main_v125, val_main_v124, val_main_cst_15]
  simp only [h, h1, h2, h3]
  rfl

end Cert.ReferenceIdeal.MainValue

end
-- ==== Proof.KernelIdeal.KernelValue.lean ====
/- What the whole kernel leaves in its result, out of its arguments: the network with the projections folded into its first
   layer, under the gate. -/
module

public import proofs.«01_k».proof.Proof.KernelIdeal.Entry
public import proofs.«01_k».proof.Proof.KernelIdeal.GateArrays
public import proofs.«01_k».proof.Proof.KernelIdeal.MlpArray
public import proofs.«01_k».proof.Proof.RefMain

@[expose] public section

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.Run Cert.KernelIdeal.Gate Cert.KernelIdeal.Mlp

variable (m : (ℓ : Loc nD τ sig) → Buf (Elt Ideal) ℓ) (ρ : Dev nD → PrngReg)

/-- The network's inputs out of the kernel's arguments. -/
abbrev net (c : Dev nD) : Spec.Net :=
  ReferenceIdeal.MainValue.ofArgs (m ((c : Thread nD τ).loc main_arg0)) (m ((c : Thread nD τ).loc main_arg1)) (m ((c : Thread nD τ).loc main_arg2)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))

/-- The gate's inputs out of the kernel's arguments. -/
abbrev gate (c : Dev nD) : Spec.Gate :=
  ReferenceIdeal.GateValue.ofArgs (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- An argument, as the first region finds it. -/
theorem at1 (c : Dev nD) (a : Ref sig .tc) (ha : a ∈ argRefs) : V1 m ρ c a = m ((c : Thread nD τ).loc a) := W1_args m ρ c a ha

/-- An argument, as the second region finds it. -/
theorem at3 (c : Dev nD) (a : Ref sig .tc) (ha : a ∈ argRefs) : V3 m ρ c a = m ((c : Thread nD τ).loc a) := W3_args m ρ c a ha

/-- The constant that is named is the inverse root of 128. -/
theorem scale_eq : Named.named (F := Ideal) (φ := .f32) κ "inv_sqrt_key" 0x3DB504F3#32 = (((Real.sqrt 128)⁻¹ : ℝ) : EReal) := rfl

/-- The gate the first region computes is the gate of the arguments. -/
theorem gate_eq (c : Dev nD) :
    (GateValue.ofBlocks (V1 m ρ c main_arg1) (V1 m ρ c main_arg3) (V1 m ρ c main_arg4) (V1 m ρ c main_v0) (V1 m ρ c main_arg6) (V1 m ρ c main_v1) (V1 m ρ c main_v2) (V1 m ρ c main_v3) (V1 m ρ c main_v5) (V1 m ρ c main_v6) (V1 m ρ c main_arg10) (V1 m ρ c main_v7) (V1 m ρ c main_arg12) (V1 m ρ c main_v8) (V1 m ρ c main_v9) (V1 m ρ c main_v10) (V1 m ρ c main_v11) (V1 m ρ c main_v12) (V1 m ρ c main_v13)) = gate m c := by
  rw [Spec.Gate.mk.injEq]
  refine ⟨?_, ?_, ?_, ?_, ?_, ?_, ?_, ?_, ?_, ?_, ?_, ?_, ?_, ?_, ?_, ?_, ?_, ?_, ?_, scale_eq⟩
  · funext b k; exact congrFun (at1 m ρ c main_arg1 (by decide)) (ix2 b k)
  · funext b k; exact congrFun (at1 m ρ c main_arg3 (by decide)) (ix2 b k)
  · funext b k; exact congrFun (at1 m ρ c main_arg4 (by decide)) (ix2 b k)
  · funext j; exact Entry.v0_apply m ρ c j
  · funext b k; exact congrFun (at1 m ρ c main_arg6 (by decide)) (ix2 b k)
  · funext j; exact Entry.v1_apply m ρ c j
  · funext j k; exact Entry.v2_apply m ρ c j k
  · funext j k; exact Entry.v3_apply m ρ c j k
  · funext j; exact Entry.v5_apply m ρ c j
  · funext j; exact Entry.v6_apply m ρ c j
  · funext b k; exact congrFun (at1 m ρ c main_arg10 (by decide)) (ix2 b k)
  · funext j; exact Entry.v7_apply m ρ c j
  · funext b k; exact congrFun (at1 m ρ c main_arg12 (by decide)) (ix2 b k)
  · funext j; exact Entry.v8_apply m ρ c j
  · funext j k; exact Entry.v9_apply m ρ c j k
  · funext j k; exact Entry.v10_apply m ρ c j k
  · funext j; exact Entry.v11_apply m ρ c j
  · funext j; exact Entry.v12_apply m ρ c j
  · exact Entry.v13_apply m ρ c

/-- The constant part of the hidden layer depends on the arrays' elements only. -/
theorem biasSum_congr {S S' : Vec Ideal S8x64 .f32} {Ws Ws' : Vec Ideal S1024x64 .f32} {bs : Vec Ideal S1x1024 .f32} {bs' : Vec Ideal S1024 .f32}
    {C C' : Vec Ideal S2048x3072 .f32} {bt : Vec Ideal S1x1024 .f32} {bt' : Vec Ideal S1024 .f32} {bc : Vec Ideal S1x2048 .f32} {bc' : Vec Ideal S2048 .f32}
    (hS : S = S') (hWs : Ws = Ws') (hbs : ∀ d, bs (ix2 0 d) = bs' (ix1 d)) (hC : C = C') (hbt : ∀ d, bt (ix2 0 d) = bt' (ix1 d))
    (hbc : ∀ j, bc (ix2 0 j) = bc' (ix1 j)) (b : Fin 8) (j : Fin 2048) :
    GateArrays.biasSum S Ws bs C bt bc b j
      = (∑ d : Fin 1024, Spec.unit (fun k => S' (ix2 b k)) (fun k => Ws' (ix2 d k)) (bs' (ix1 d)) * C' (ix2 j ⟨2048 + d.val, by omega⟩))
        + bc' (ix1 j) + ∑ d : Fin 1024, bt' (ix1 d) * C' (ix2 j ⟨1024 + d.val, by omega⟩) := by
  subst hS hWs hC
  unfold GateArrays.biasSum
  simp only [hbs, hbt, hbc]

/-- The gate, as the second region finds it. -/
theorem alpha_eq (c : Dev nD) (b : Fin 8) (l : Fin 128) : V3 m ρ c main_v18 (ix3 b 0 l) = (gate m c).gate b := by
  rw [Entry.v18_apply, ← gate_eq m ρ c, ← GateArrays.gate0_apply (V1 m ρ) c b l, ← GateArrays.gate_arr (V1 m ρ) c b l]
  exact congrFun (W2_arr m ρ c 26) (ix2 b l)

/-- The hidden layer's constant part, as the second region finds it. -/
theorem bias_eq (c : Dev nD) (alpha : Fin 8 → EReal) (b : Fin 8) (t : Fin 2048) (j : Fin 2048) :
    V3 m ρ c main_v19 (ix3 b 0 j) = ((net m c).token alpha b t).bias j := by
  rw [Entry.v19_apply]
  refine (congrFun (W2_arr m ρ c 27) (ix2 b j)).trans ((GateArrays.bias_arr (V1 m ρ) c b j).trans ?_)
  exact biasSum_congr (at1 m ρ c main_arg1 (by decide)) (at1 m ρ c main_arg20 (by decide)) (Entry.v14_apply m ρ c)
    (at1 m ρ c main_arg22 (by decide)) (Entry.v15_apply m ρ c) (Entry.v16_apply m ρ c) b j

/-- The time features' folded weights, as the second region finds them. -/
theorem time_eq (c : Dev nD) (alpha : Fin 8 → EReal) (b : Fin 8) (t : Fin 2048) (j : Fin 2048) (n : Fin 32) :
    V3 m ρ c main_v17_2 (ix2 j n) = ((net m c).token alpha b t).Wt j n := by
  refine (congrFun (W3_of m ρ c main_v17_2 (by decide)) (ix2 j n)).trans ((congrFun (W2_arr m ρ c 28) (ix2 j n)).trans
    ((GateArrays.time_arr (V1 m ρ) c j n).trans ?_))
  rw [at1 m ρ c main_arg22 (by decide), at1 m ρ c main_arg18 (by decide)]
  rfl

/-- The first layer's weights on the hidden states, as the second region finds them. -/
theorem first_eq (c : Dev nD) (alpha : Fin 8 → EReal) (b : Fin 8) (t : Fin 2048) (j : Fin 2048) (k : Fin 1024) :
    V3 m ρ c main_v17_3 (ix2 j k) = ((net m c).token alpha b t).W1 j k :=
  (congrFun (W3_of m ρ c main_v17_3 (by decide)) (ix2 j k)).trans ((congrFun (W2_arr m ρ c 29) (ix2 j k)).trans
    ((GateArrays.first_arr (V1 m ρ) c j k).trans (congrFun (at1 m ρ c main_arg22 (by decide)) _)))

/-- The second layer's weights, as the second region finds them. -/
theorem second_eq (c : Dev nD) (alpha : Fin 8 → EReal) (b : Fin 8) (t : Fin 2048) (d : Fin 1024) (j : Fin 2048) :
    V3 m ρ c main_v17_4 (ix2 d j) = ((net m c).token alpha b t).W2 d j :=
  (congrFun (W3_of m ρ c main_v17_4 (by decide)) (ix2 d j)).trans ((congrFun (W2_arr m ρ c 30) (ix2 d j)).trans
    ((GateArrays.second_arr (V1 m ρ) c d j).trans (congrFun (at1 m ρ c main_arg24 (by decide)) _)))

/-- What one token's result depends on, out of the arrays the second region finds, is what it depends on out of the arguments. -/
theorem token_eq (c : Dev nD) (b : Fin 8) (r : Fin 2048) :
    MlpArray.ofArrays (V3 m ρ c main_arg0) (V3 m ρ c main_arg2) (V3 m ρ c main_v18) (V3 m ρ c main_v19) (V3 m ρ c main_v17_3) (V3 m ρ c main_v17_2) (V3 m ρ c main_v17_4) (V3 m ρ c main_v20) (V3 m ρ c main_v21) (V3 m ρ c main_v22) b r
      = (net m c).token (gate m c).gate b r := by
  unfold MlpArray.ofArrays Spec.Net.token
  rw [Spec.Token.mk.injEq]
  refine ⟨?_, ?_, ?_, ?_, ?_, ?_, ?_, ?_, ?_, ?_⟩
  · funext k; exact congrFun (at3 m ρ c main_arg0 (by decide)) (ix3 b r k)
  · funext n; exact congrFun (at3 m ρ c main_arg2 (by decide)) (ix3 b r n)
  · funext j k; exact first_eq m ρ c (gate m c).gate b r j k
  · funext j n; exact time_eq m ρ c (gate m c).gate b r j n
  · funext j; exact bias_eq m ρ c (gate m c).gate b r j
  · funext d j; exact second_eq m ρ c (gate m c).gate b r d j
  · funext d; exact (Entry.v20_apply m ρ c d).trans (congrFun (W2_args m ρ c main_arg25 (by decide)) (ix1 d))
  · funext d; exact (Entry.v21_apply m ρ c d).trans (congrFun (W2_args m ρ c main_arg26 (by decide)) (ix1 d))
  · funext d; exact (Entry.v22_apply m ρ c d).trans (congrFun (W2_args m ρ c main_arg27 (by decide)) (ix1 d))
  · exact alpha_eq m ρ c b 0

/-- The kernel's result. -/
theorem value (c : Dev nD) (b : Fin 8) (r : Fin 2048) (d : Fin 1024) :
    (dat1 (V3 m ρ) c).arrAt 10 cfg1.N (ix3 b r d) = ((net m c).token (gate m c).gate b r).result d := by
  rw [MlpArray.result_arr (V3 m ρ) c b r d, token_eq]

end Cert.KernelIdeal.KernelValue
end
-- ==== Proof.Equation.lean ====
/- The two forms of the network agree when its inputs are real numbers: the projections may be folded into the first layer,
   the mean of the squares less the square of the mean is the mean of the squared deviations, and the gate may be multiplied
   into the normalisation's own scale and shift. -/
module

public import proofs.«01_k».proof.Proof.Spec
public import proofs.«01_k».proof.Proof.Literals

@[expose] public section

noncomputable section

namespace Cert.Spec

open Idealize.ShloMosaic

/-- The coercion of a finite sum. -/
theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- The gaussian error unit of a real number is a real number. -/
theorem gelu_real (x : ℝ) : ∃ y : ℝ, gelu (x : EReal) = (y : EReal) := by
  obtain ⟨s, hs⟩ := Literals.lit_slope
  refine ⟨1 / 2 * x * (1 + 2 / Real.sqrt Real.pi * ∫ t in (0 : ℝ)..(x * s), Real.exp (-(t ^ 2))), ?_⟩
  unfold gelu half slope
  rw [Literals.lit_half, hs, ← EReal.coe_mul, ← EReal.coe_mul, Ideal.erf_coe]
  push_cast
  rfl

/-- The logistic function takes real values everywhere, none of them negative. -/
theorem logistic_real (x : EReal) : ∃ a : ℝ, 0 ≤ a ∧ Ideal.logistic x = (a : EReal) := by
  induction x with
  | bot => exact ⟨0, le_rfl, by rw [Ideal.logistic_bot, EReal.coe_zero]⟩
  | top => exact ⟨1, zero_le_one, by rw [Ideal.logistic_top, EReal.coe_one]⟩
  | coe r => exact ⟨_, by positivity, Ideal.logistic_coe r⟩

/-- The gate is a real number, whatever its inputs, and not negative. -/
theorem Gate.gate_real (G : Gate) (b : Fin 8) : ∃ a : ℝ, 0 ≤ a ∧ G.gate b = (a : EReal) := logistic_real _

/-! ## The normalisation -/

/-- Over the reals, the mean of the squares less the square of the mean is the mean of the squared deviations. -/
theorem variance_eq (x : Fin 1024 → ℝ) :
    (∑ d, x d * x d) * (1 / 1024) - (∑ d, x d) * (1 / 1024) * ((∑ d, x d) * (1 / 1024))
      = (∑ d, (x d - (∑ d, x d) * (1 / 1024)) * (x d - (∑ d, x d) * (1 / 1024))) * (1 / 1024) := by
  generalize hm : (∑ d, x d) * (1 / 1024) = μ
  have hs : ∑ d, x d = 1024 * μ := by rw [← hm]; ring
  have h : ∀ d, (x d - μ) * (x d - μ) = x d * x d - 2 * μ * x d + μ * μ := fun d => by ring
  simp only [h]
  rw [Finset.sum_add_distrib, Finset.sum_sub_distrib, ← Finset.mul_sum, hs]
  simp only [Finset.sum_const, Finset.card_univ, Fintype.card_fin, nsmul_eq_mul]
  push_cast
  ring

/-- The two forms of the normalised correction, for a correction `x` that is real. -/
theorem normalised_eq (x : Fin 1024 → ℝ) (d : Fin 1024) :
    ((x d : EReal) - (∑ d, (x d : EReal)) * perWidth)
          * Ideal.rsqrt ((∑ d, (x d : EReal) * (x d : EReal)) * perWidth
              - (∑ d, (x d : EReal)) * perWidth * ((∑ d, (x d : EReal)) * perWidth) + eps)
      = Ideal.div ((x d : EReal) - Ideal.div (∑ d, (x d : EReal)) width)
            (Ideal.sqrt (Ideal.div (∑ d, ((x d : EReal) - Ideal.div (∑ d, (x d : EReal)) width)
              * ((x d : EReal) - Ideal.div (∑ d, (x d : EReal)) width)) width + eps)) := by
  obtain ⟨e, he, hl⟩ := Literals.lit_eps
  have hw : ∀ z : EReal, Ideal.div z width = z * ((1 / 1024 : ℝ) : EReal) := fun z => by
    unfold width; rw [Literals.lit_1024]; exact Ideal.div_coe (by norm_num) z
  have hp : perWidth = ((1 / 1024 : ℝ) : EReal) := Literals.lit_inv_1024
  have hl' : eps = (e : EReal) := hl
  simp only [hw, hp, hl', ← EReal.coe_mul, ← coe_sum, ← EReal.coe_sub, ← EReal.coe_add]
  rw [variance_eq x]
  generalize hv : (∑ d, (x d - (∑ d, x d) * (1 / 1024)) * (x d - (∑ d, x d) * (1 / 1024))) * (1 / 1024) = v
  have hv0 : 0 ≤ v := by
    rw [← hv]
    exact mul_nonneg (Finset.sum_nonneg fun d _ => mul_self_nonneg _) (by norm_num)
  have hpos : 0 < v + e := by linarith
  have hs : Real.sqrt (v + e) ≠ 0 := (Real.sqrt_pos.2 hpos).ne'
  rw [Ideal.rsqrt_coe, Ideal.sqrt_coe, if_neg (not_lt.2 hpos.le), if_neg hpos.ne', if_neg (not_lt.2 hpos.le), Ideal.div_coe hs]
  simp only [← EReal.coe_mul, ← EReal.coe_add]
  rw [one_div (Real.sqrt _)]

/-- A gate that is real and not negative may be multiplied into the scale and the shift, whatever those are. -/
theorem gated_eq (h y g b : EReal) {a : ℝ} (ha : 0 ≤ a) :
    h + y * ((a : EReal) * g) + (a : EReal) * b = h + (a : EReal) * (y * g + b) := by
  rw [EReal.left_distrib_of_nonneg_of_ne_top (EReal.coe_nonneg.2 ha) (EReal.coe_ne_top a), mul_left_comm, add_assoc]

/-! ## The network -/

/-- Every input of the network up to its normalisation is a real number. -/
structure Net.Real (N : Net) : Prop where
  (h : ∀ r t k, ∃ x : ℝ, N.h r t k = (x : EReal)) (s : ∀ r k, ∃ x : ℝ, N.s r k = (x : EReal))
  (tm : ∀ r t n, ∃ x : ℝ, N.tm r t n = (x : EReal)) (Wt : ∀ d n, ∃ x : ℝ, N.Wt d n = (x : EReal))
  (bt : ∀ d, ∃ x : ℝ, N.bt d = (x : EReal)) (Ws : ∀ d k, ∃ x : ℝ, N.Ws d k = (x : EReal))
  (bs : ∀ d, ∃ x : ℝ, N.bs d = (x : EReal)) (C : ∀ j k, ∃ x : ℝ, N.C j k = (x : EReal))
  (bc : ∀ j, ∃ x : ℝ, N.bc j = (x : EReal)) (W2 : ∀ d j, ∃ x : ℝ, N.W2 d j = (x : EReal))
  (b2 : ∀ d, ∃ x : ℝ, N.b2 d = (x : EReal))

/-- Over the reals: projecting the time features and then taking them through the first layer is taking them through the
    folded weights, the projection's bias apart. -/
theorem fold_eq (t : Fin 32 → ℝ) (W : Fin 1024 → Fin 32 → ℝ) (p c : Fin 1024 → ℝ) :
    ∑ d, ((∑ n, t n * W d n) + p d) * c d = (∑ n, t n * ∑ d, c d * W d n) + ∑ d, p d * c d := by
  simp only [add_mul, Finset.sum_add_distrib, Finset.sum_mul, Finset.mul_sum]
  rw [Finset.sum_comm]
  congr 1
  exact Finset.sum_congr rfl fun n _ => Finset.sum_congr rfl fun d _ => by ring

/-- The two hidden layers agree, and are real. -/
theorem Net.hidden_eq (N : Net) (hN : N.Real) (alpha : Fin 8 → EReal) (r : Fin 8) (t : Fin 2048) (j : Fin 2048) :
    ∃ z : ℝ, (N.token alpha r t).hidden j = (z : EReal) ∧ N.hidden r t j = (z : EReal) := by
  obtain ⟨h, s, tm, Wt, bt, Ws, bs, C, bc, W2, b2⟩ := hN
  choose h hh using h r t
  choose s hs using s r
  choose tm htm using tm r t
  choose Wt hWt using Wt
  choose bt hbt using bt
  choose Ws hWs using Ws
  choose bs hbs using bs
  choose C hC using C j
  obtain ⟨bc, hbc⟩ := bc j
  refine ⟨(∑ k : Fin 1024, h k * C ⟨k.val, by omega⟩)
    + ((∑ d : Fin 1024, ((∑ n, tm n * Wt d n) + bt d) * C ⟨1024 + d.val, by omega⟩)
      + ∑ d : Fin 1024, ((∑ k, s k * Ws d k) + bs d) * C ⟨2048 + d.val, by omega⟩) + bc, ?_, ?_⟩
  · unfold Token.hidden Net.token Net.static unit
    simp only [hh, hs, htm, hWt, hbt, hWs, hbs, hC, hbc, ← EReal.coe_mul, ← coe_sum, ← EReal.coe_add]
    rw [fold_eq]
    congr 1
    ring
  · unfold Net.hidden Net.time Net.static unit
    simp only [hh, hs, htm, hWt, hbt, hWs, hbs, hC, hbc, ← EReal.coe_mul, ← coe_sum, ← EReal.coe_add]

/-- The two corrections agree, and are real. -/
theorem Net.corr_eq (N : Net) (hN : N.Real) (alpha : Fin 8 → EReal) (r : Fin 8) (t : Fin 2048) (d : Fin 1024) :
    ∃ z : ℝ, (N.token alpha r t).corr d = (z : EReal) ∧ N.corr r t d = (z : EReal) := by
  choose z hz hz' using fun j => N.hidden_eq hN alpha r t j
  choose y hy using fun j => gelu_real (z j)
  choose w hw using fun j => hN.W2 d j
  obtain ⟨c, hc⟩ := hN.b2 d
  refine ⟨(∑ j, y j * w j) + c, ?_, ?_⟩
  · unfold Token.corr unit
    simp only [hz, hy]
    simp only [Net.token, hw, hc, EReal.coe_add, coe_sum, EReal.coe_mul]
  · unfold Net.corr unit
    simp only [hz', hy, hw, hc, EReal.coe_add, coe_sum, EReal.coe_mul]

/-- The two results agree. -/
theorem Net.result_eq (N : Net) (hN : N.Real) (alpha : Fin 8 → EReal) (ha : ∀ r, ∃ a : ℝ, 0 ≤ a ∧ alpha r = (a : EReal))
    (r : Fin 8) (t : Fin 2048) (d : Fin 1024) : (N.token alpha r t).result d = N.result alpha r t d := by
  choose x hx hx' using fun d => N.corr_eq hN alpha r t d
  obtain ⟨a, ha0, ha⟩ := ha r
  unfold Token.result Token.spread Token.mean Net.result Net.spread Net.mean
  simp only [hx, hx']
  rw [normalised_eq x d]
  simp only [Net.token, ha]
  exact gated_eq _ _ _ _ ha0

end Cert.Spec

end
-- ==== Proof.Finite.lean ====
/- The precondition in plain words: an argument whose every element's magnitude lies below infinity holds real numbers. -/
module

public import proofs.«01_k».proof.Defs
public import proofs.«01_k».proof.Proof.Gen.Pre_finite_inputs
public import proofs.«01_k».proof.Proof.Literals
public import Idealize.ShloMosaic.Lib.Pointwise

@[expose] public section

noncomputable section

namespace Cert.Finite

open Idealize.ShloMosaic

/-- An extended real whose magnitude lies below infinity is a real number. -/
theorem real_of_abs_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  have ht : Ideal.ofBits .f32 0x7F800000#32 = (⊤ : EReal) := by simp [Ideal.ofBits, Ideal.ieee]
  have h' : Ideal.cmp .olt (max x (-x)) (Ideal.ofBits .f32 0x7F800000#32) = 1#1 := h
  rw [ht] at h'
  induction x with
  | bot => simp [Ideal.cmp] at h'
  | top => simp [Ideal.cmp] at h'
  | coe r => exact ⟨r, rfl⟩

/-- What the precondition compares, for one array. -/
theorem real_of_mask {S : Shape} (hb : Pre_finite_inputs.S_.BroadcastsInDim S (![] : Fin 0 → Fin S.rank)) (x : FVec Ideal S .f32)
    (h : cmpf .olt (Host.absf x) (broadcastInDim S ![] hb (constant Pre_finite_inputs.S_ .f32 0x7F800000#32)) = fun _ => 1#1) (i : S.Idx) :
    ∃ r : ℝ, x i = (r : EReal) :=
  real_of_abs_lt (x i) (congrFun h i)

end Cert.Finite
end
-- ==== Proof.Equal.lean ====
/- The kernel and the reference, both over the extended reals, end with equal results when the inputs of the correction up to
   its normalisation are real numbers. -/
module

public import proofs.«01_k».proof.Defs
public import proofs.«01_k».proof.Proof.Gen.ReferenceIdeal.Run
public import proofs.«01_k».proof.Proof.Gen.ReferenceIdeal.Read
public import proofs.«01_k».proof.Proof.Gen.Pre_finite_inputs
public import proofs.«01_k».proof.Proof.KernelIdeal.KernelValue
public import proofs.«01_k».proof.Proof.Equation
public import proofs.«01_k».proof.Proof.Finite

@[expose] public section

set_option maxRecDepth 16384

noncomputable section

namespace Cert.Proof

open Idealize.ShloMosaic Idealize.ShloMosaic.TcCoe Idealize.SL.Sem

/-- The precondition says that every input of the network up to its normalisation is a real number. -/
theorem net_real (m : (ℓ : Loc KernelIdeal.nD KernelIdeal.τ KernelIdeal.sig) → Buf (Elt Ideal) ℓ)
    (h : Pre_KernelIdeal_finite_inputs m) (c : Dev KernelIdeal.nD) : (KernelIdeal.KernelValue.net m c).Real := by
  obtain ⟨h0, h1, h2, h18, h19, h20, h21, h22, h23, h24, h25⟩ := h c
  exact {
    h := fun r t k => Finite.real_of_mask _ _ h0 (ix3 r t k)
    s := fun r k => Finite.real_of_mask _ _ h1 (ix2 r k)
    tm := fun r t n => Finite.real_of_mask _ _ h2 (ix3 r t n)
    Wt := fun d n => Finite.real_of_mask _ _ h18 (ix2 d n)
    bt := fun d => Finite.real_of_mask _ _ h19 (ix1 d)
    Ws := fun d k => Finite.real_of_mask _ _ h20 (ix2 d k)
    bs := fun d => Finite.real_of_mask _ _ h21 (ix1 d)
    C := fun j k => Finite.real_of_mask _ _ h22 (ix2 j k)
    bc := fun j => Finite.real_of_mask _ _ h23 (ix1 j)
    W2 := fun d j => Finite.real_of_mask _ _ h24 (ix2 d j)
    b2 := fun d => Finite.real_of_mask _ _ h25 (ix1 d) }

/-- The reference's formula at the kernel's arguments is what the kernel leaves in its result. -/
theorem result_eq (m : (ℓ : Loc KernelIdeal.nD KernelIdeal.τ KernelIdeal.sig) → Buf (Elt Ideal) ℓ) (ρ : Dev KernelIdeal.nD → PrngReg)
    (h : Pre_KernelIdeal_finite_inputs m) (c : Dev KernelIdeal.nD) :
    ReferenceIdeal.Read.val_main_v139 (F := Ideal) (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5)) (m ((c : Thread KernelIdeal.nD KernelIdeal.τ).loc KernelIdeal.main_arg6)) (m ((c : Thread KernelIdeal.nD KernelIdeal.τ).loc KernelIdeal.main_arg7)) (m ((c : Thread KernelIdeal.nD KernelIdeal.τ).loc KernelIdeal.main_arg8)) (m ((c : Thread KernelIdeal.nD KernelIdeal.τ).loc KernelIdeal.main_arg9)) (m ((c : Thread KernelIdeal.nD KernelIdeal.τ).loc KernelIdeal.main_arg10)) (m ((c : Thread KernelIdeal.nD KernelIdeal.τ).loc KernelIdeal.main_arg11)) (m ((c : Thread KernelIdeal.nD KernelIdeal.τ).loc KernelIdeal.main_arg12)) (m ((c : Thread KernelIdeal.nD KernelIdeal.τ).loc KernelIdeal.main_arg13)) (m ((c : Thread KernelIdeal.nD KernelIdeal.τ).loc KernelIdeal.main_arg14)) (m ((c : Thread KernelIdeal.nD KernelIdeal.τ).loc KernelIdeal.main_arg15)) (m ((c : Thread KernelIdeal.nD KernelIdeal.τ).loc KernelIdeal.main_arg16)) (m ((c : Thread KernelIdeal.nD KernelIdeal.τ).loc KernelIdeal.main_arg17)) (m ((c : Thread KernelIdeal.nD KernelIdeal.τ).loc KernelIdeal.main_arg18)) (m ((c : Thread KernelIdeal.nD KernelIdeal.τ).loc KernelIdeal.main_arg19)) (m ((c : Thread KernelIdeal.nD KernelIdeal.τ).loc KernelIdeal.main_arg20)) (m ((c : Thread KernelIdeal.nD KernelIdeal.τ).loc KernelIdeal.main_arg21)) (m ((c : Thread KernelIdeal.nD KernelIdeal.τ).loc KernelIdeal.main_arg22)) (m ((c : Thread KernelIdeal.nD KernelIdeal.τ).loc KernelIdeal.main_arg23)) (m ((c : Thread KernelIdeal.nD KernelIdeal.τ).loc KernelIdeal.main_arg24)) (m ((c : Thread KernelIdeal.nD KernelIdeal.τ).loc KernelIdeal.main_arg25)) (m ((c : Thread KernelIdeal.nD KernelIdeal.τ).loc KernelIdeal.main_arg26)) (m ((c : Thread KernelIdeal.nD KernelIdeal.τ).loc KernelIdeal.main_arg27))
      = (KernelIdeal.Mlp.dat1 (KernelIdeal.Run.V3 m ρ) c).arrAt 10 KernelIdeal.cfg1.N := by
  funext i
  obtain ⟨r, t, d, rfl⟩ : ∃ r t d, i = ix3 r t d := ⟨i 0, i 1, i 2, by idx_vars i⟩
  rw [ReferenceIdeal.MainValue.result_apply]
  refine Eq.trans ?_ (KernelIdeal.KernelValue.value m ρ c r t d).symm
  exact (Spec.Net.result_eq _ (net_real m h c) _ (Spec.Gate.gate_real _) r t d).symm

/-- The reference's run, its result read as the formula's term. -/
theorem reference_run (m' : (ℓ : Loc ReferenceIdeal.nD ReferenceIdeal.τ ReferenceIdeal.sig) → Buf (Elt Ideal) ℓ)
    (ρ' : Dev ReferenceIdeal.nD → PrngReg) :
    θ_run (ReferenceIdeal.defs (F := Ideal)) (onTc (τ := ReferenceIdeal.τ) (ReferenceIdeal.main (F := Ideal))) ⟨m', fun _ => 0, ρ'⟩
      (fun r => ∀ c : Dev ReferenceIdeal.nD,
        r.2.mem ((c.tc : Thread ReferenceIdeal.nD ReferenceIdeal.τ).loc ReferenceIdeal.main_v139)
          = ReferenceIdeal.Read.val_main_v139 (F := Ideal) (m' ((c : Thread ReferenceIdeal.nD ReferenceIdeal.τ).loc ReferenceIdeal.main_arg0)) (m' ((c : Thread ReferenceIdeal.nD ReferenceIdeal.τ).loc ReferenceIdeal.main_arg1)) (m' ((c : Thread ReferenceIdeal.nD ReferenceIdeal.τ).loc ReferenceIdeal.main_arg2)) (m' ((c : Thread ReferenceIdeal.nD ReferenceIdeal.τ).loc ReferenceIdeal.main_arg3)) (m' ((c : Thread ReferenceIdeal.nD ReferenceIdeal.τ).loc ReferenceIdeal.main_arg4)) (m' ((c : Thread ReferenceIdeal.nD ReferenceIdeal.τ).loc ReferenceIdeal.main_arg5)) (m' ((c : Thread ReferenceIdeal.nD ReferenceIdeal.τ).loc ReferenceIdeal.main_arg6)) (m' ((c : Thread ReferenceIdeal.nD ReferenceIdeal.τ).loc ReferenceIdeal.main_arg7)) (m' ((c : Thread ReferenceIdeal.nD ReferenceIdeal.τ).loc ReferenceIdeal.main_arg8)) (m' ((c : Thread ReferenceIdeal.nD ReferenceIdeal.τ).loc ReferenceIdeal.main_arg9)) (m' ((c : Thread ReferenceIdeal.nD ReferenceIdeal.τ).loc ReferenceIdeal.main_arg10)) (m' ((c : Thread ReferenceIdeal.nD ReferenceIdeal.τ).loc ReferenceIdeal.main_arg11)) (m' ((c : Thread ReferenceIdeal.nD ReferenceIdeal.τ).loc ReferenceIdeal.main_arg12)) (m' ((c : Thread ReferenceIdeal.nD ReferenceIdeal.τ).loc ReferenceIdeal.main_arg13)) (m' ((c : Thread ReferenceIdeal.nD ReferenceIdeal.τ).loc ReferenceIdeal.main_arg14)) (m' ((c : Thread ReferenceIdeal.nD ReferenceIdeal.τ).loc ReferenceIdeal.main_arg15)) (m' ((c : Thread ReferenceIdeal.nD ReferenceIdeal.τ).loc ReferenceIdeal.main_arg16)) (m' ((c : Thread ReferenceIdeal.nD ReferenceIdeal.τ).loc ReferenceIdeal.main_arg17)) (m' ((c : Thread ReferenceIdeal.nD ReferenceIdeal.τ).loc ReferenceIdeal.main_arg18)) (m' ((c : Thread ReferenceIdeal.nD ReferenceIdeal.τ).loc ReferenceIdeal.main_arg19)) (m' ((c : Thread ReferenceIdeal.nD ReferenceIdeal.τ).loc ReferenceIdeal.main_arg20)) (m' ((c : Thread ReferenceIdeal.nD ReferenceIdeal.τ).loc ReferenceIdeal.main_arg21)) (m' ((c : Thread ReferenceIdeal.nD ReferenceIdeal.τ).loc ReferenceIdeal.main_arg22)) (m' ((c : Thread ReferenceIdeal.nD ReferenceIdeal.τ).loc ReferenceIdeal.main_arg23)) (m' ((c : Thread ReferenceIdeal.nD ReferenceIdeal.τ).loc ReferenceIdeal.main_arg24)) (m' ((c : Thread ReferenceIdeal.nD ReferenceIdeal.τ).loc ReferenceIdeal.main_arg25)) (m' ((c : Thread ReferenceIdeal.nD ReferenceIdeal.τ).loc ReferenceIdeal.main_arg26)) (m' ((c : Thread ReferenceIdeal.nD ReferenceIdeal.τ).loc ReferenceIdeal.main_arg27))
        ∧ r.2.mem ((c.tc : Thread ReferenceIdeal.nD ReferenceIdeal.τ).loc ReferenceIdeal.main_arg0) = m' ((c.tc : Thread ReferenceIdeal.nD ReferenceIdeal.τ).loc ReferenceIdeal.main_arg0) ∧ r.2.mem ((c.tc : Thread ReferenceIdeal.nD ReferenceIdeal.τ).loc ReferenceIdeal.main_arg1) = m' ((c.tc : Thread ReferenceIdeal.nD ReferenceIdeal.τ).loc ReferenceIdeal.main_arg1) ∧ r.2.mem ((c.tc : Thread ReferenceIdeal.nD ReferenceIdeal.τ).loc ReferenceIdeal.main_arg2) = m' ((c.tc : Thread ReferenceIdeal.nD ReferenceIdeal.τ).loc ReferenceIdeal.main_arg2) ∧ r.2.mem ((c.tc : Thread ReferenceIdeal.nD ReferenceIdeal.τ).loc ReferenceIdeal.main_arg3) = m' ((c.tc : Thread ReferenceIdeal.nD ReferenceIdeal.τ).loc ReferenceIdeal.main_arg3) ∧ r.2.mem ((c.tc : Thread ReferenceIdeal.nD ReferenceIdeal.τ).loc ReferenceIdeal.main_arg4) = m' ((c.tc : Thread ReferenceIdeal.nD ReferenceIdeal.τ).loc ReferenceIdeal.main_arg4) ∧ r.2.mem ((c.tc : Thread ReferenceIdeal.nD ReferenceIdeal.τ).loc ReferenceIdeal.main_arg5) = m' ((c.tc : Thread ReferenceIdeal.nD ReferenceIdeal.τ).loc ReferenceIdeal.main_arg5) ∧ r.2.mem ((c.tc : Thread ReferenceIdeal.nD ReferenceIdeal.τ).loc ReferenceIdeal.main_arg6) = m' ((c.tc : Thread ReferenceIdeal.nD ReferenceIdeal.τ).loc ReferenceIdeal.main_arg6) ∧ r.2.mem ((c.tc : Thread ReferenceIdeal.nD ReferenceIdeal.τ).loc ReferenceIdeal.main_arg7) = m' ((c.tc : Thread ReferenceIdeal.nD ReferenceIdeal.τ).loc ReferenceIdeal.main_arg7) ∧ r.2.mem ((c.tc : Thread ReferenceIdeal.nD ReferenceIdeal.τ).loc ReferenceIdeal.main_arg8) = m' ((c.tc : Thread ReferenceIdeal.nD ReferenceIdeal.τ).loc ReferenceIdeal.main_arg8) ∧ r.2.mem ((c.tc : Thread ReferenceIdeal.nD ReferenceIdeal.τ).loc ReferenceIdeal.main_arg9) = m' ((c.tc : Thread ReferenceIdeal.nD ReferenceIdeal.τ).loc ReferenceIdeal.main_arg9) ∧ r.2.mem ((c.tc : Thread ReferenceIdeal.nD ReferenceIdeal.τ).loc ReferenceIdeal.main_arg10) = m' ((c.tc : Thread ReferenceIdeal.nD ReferenceIdeal.τ).loc ReferenceIdeal.main_arg10) ∧ r.2.mem ((c.tc : Thread ReferenceIdeal.nD ReferenceIdeal.τ).loc ReferenceIdeal.main_arg11) = m' ((c.tc : Thread ReferenceIdeal.nD ReferenceIdeal.τ).loc ReferenceIdeal.main_arg11) ∧ r.2.mem ((c.tc : Thread ReferenceIdeal.nD ReferenceIdeal.τ).loc ReferenceIdeal.main_arg12) = m' ((c.tc : Thread ReferenceIdeal.nD ReferenceIdeal.τ).loc ReferenceIdeal.main_arg12) ∧ r.2.mem ((c.tc : Thread ReferenceIdeal.nD ReferenceIdeal.τ).loc ReferenceIdeal.main_arg13) = m' ((c.tc : Thread ReferenceIdeal.nD ReferenceIdeal.τ).loc ReferenceIdeal.main_arg13) ∧ r.2.mem ((c.tc : Thread ReferenceIdeal.nD ReferenceIdeal.τ).loc ReferenceIdeal.main_arg14) = m' ((c.tc : Thread ReferenceIdeal.nD ReferenceIdeal.τ).loc ReferenceIdeal.main_arg14) ∧ r.2.mem ((c.tc : Thread ReferenceIdeal.nD ReferenceIdeal.τ).loc ReferenceIdeal.main_arg15) = m' ((c.tc : Thread ReferenceIdeal.nD ReferenceIdeal.τ).loc ReferenceIdeal.main_arg15) ∧ r.2.mem ((c.tc : Thread ReferenceIdeal.nD ReferenceIdeal.τ).loc ReferenceIdeal.main_arg16) = m' ((c.tc : Thread ReferenceIdeal.nD ReferenceIdeal.τ).loc ReferenceIdeal.main_arg16) ∧ r.2.mem ((c.tc : Thread ReferenceIdeal.nD ReferenceIdeal.τ).loc ReferenceIdeal.main_arg17) = m' ((c.tc : Thread ReferenceIdeal.nD ReferenceIdeal.τ).loc ReferenceIdeal.main_arg17) ∧ r.2.mem ((c.tc : Thread ReferenceIdeal.nD ReferenceIdeal.τ).loc ReferenceIdeal.main_arg18) = m' ((c.tc : Thread ReferenceIdeal.nD ReferenceIdeal.τ).loc ReferenceIdeal.main_arg18) ∧ r.2.mem ((c.tc : Thread ReferenceIdeal.nD ReferenceIdeal.τ).loc ReferenceIdeal.main_arg19) = m' ((c.tc : Thread ReferenceIdeal.nD ReferenceIdeal.τ).loc ReferenceIdeal.main_arg19) ∧ r.2.mem ((c.tc : Thread ReferenceIdeal.nD ReferenceIdeal.τ).loc ReferenceIdeal.main_arg20) = m' ((c.tc : Thread ReferenceIdeal.nD ReferenceIdeal.τ).loc ReferenceIdeal.main_arg20) ∧ r.2.mem ((c.tc : Thread ReferenceIdeal.nD ReferenceIdeal.τ).loc ReferenceIdeal.main_arg21) = m' ((c.tc : Thread ReferenceIdeal.nD ReferenceIdeal.τ).loc ReferenceIdeal.main_arg21) ∧ r.2.mem ((c.tc : Thread ReferenceIdeal.nD ReferenceIdeal.τ).loc ReferenceIdeal.main_arg22) = m' ((c.tc : Thread ReferenceIdeal.nD ReferenceIdeal.τ).loc ReferenceIdeal.main_arg22) ∧ r.2.mem ((c.tc : Thread ReferenceIdeal.nD ReferenceIdeal.τ).loc ReferenceIdeal.main_arg23) = m' ((c.tc : Thread ReferenceIdeal.nD ReferenceIdeal.τ).loc ReferenceIdeal.main_arg23) ∧ r.2.mem ((c.tc : Thread ReferenceIdeal.nD ReferenceIdeal.τ).loc ReferenceIdeal.main_arg24) = m' ((c.tc : Thread ReferenceIdeal.nD ReferenceIdeal.τ).loc ReferenceIdeal.main_arg24) ∧ r.2.mem ((c.tc : Thread ReferenceIdeal.nD ReferenceIdeal.τ).loc ReferenceIdeal.main_arg25) = m' ((c.tc : Thread ReferenceIdeal.nD ReferenceIdeal.τ).loc ReferenceIdeal.main_arg25) ∧ r.2.mem ((c.tc : Thread ReferenceIdeal.nD ReferenceIdeal.τ).loc ReferenceIdeal.main_arg26) = m' ((c.tc : Thread ReferenceIdeal.nD ReferenceIdeal.τ).loc ReferenceIdeal.main_arg26) ∧ r.2.mem ((c.tc : Thread ReferenceIdeal.nD ReferenceIdeal.τ).loc ReferenceIdeal.main_arg27) = m' ((c.tc : Thread ReferenceIdeal.nD ReferenceIdeal.τ).loc ReferenceIdeal.main_arg27)) :=
  (θ_run ReferenceIdeal.defs _ _).mono
    (fun _ h c => ⟨(h c).1.trans (ReferenceIdeal.Read.val_main_v139_eq (StableHlo.launchContents m' c)), (h c).2⟩)
    (ReferenceIdeal.Value.run (F := Ideal) m' ρ')

/-- Equal arguments, equal results of the reference's formula. -/
theorem reference_congr {x0 : FVec Ideal ReferenceIdeal.S8x2048x1024 .f32} {x1 : FVec Ideal ReferenceIdeal.S8x64 .f32} {x2 : FVec Ideal ReferenceIdeal.S8x2048x32 .f32} {x3 : FVec Ideal ReferenceIdeal.S256x64 .f32} {x4 : FVec Ideal ReferenceIdeal.S256x64 .f32} {x5 : FVec Ideal ReferenceIdeal.S256 .f32} {x6 : FVec Ideal ReferenceIdeal.S128x256 .f32} {x7 : FVec Ideal ReferenceIdeal.S128 .f32} {x8 : FVec Ideal ReferenceIdeal.S256x129 .f32} {x9 : FVec Ideal ReferenceIdeal.S256 .f32} {x10 : FVec Ideal ReferenceIdeal.S128x256 .f32} {x11 : FVec Ideal ReferenceIdeal.S128 .f32} {x12 : FVec Ideal ReferenceIdeal.S128x64 .f32} {x13 : FVec Ideal ReferenceIdeal.S128 .f32} {x14 : FVec Ideal ReferenceIdeal.S128x256 .f32} {x15 : FVec Ideal ReferenceIdeal.S128 .f32} {x16 : FVec Ideal ReferenceIdeal.S1x128 .f32} {x17 : FVec Ideal ReferenceIdeal.S1 .f32} {x18 : FVec Ideal ReferenceIdeal.S1024x32 .f32} {x19 : FVec Ideal ReferenceIdeal.S1024 .f32} {x20 : FVec Ideal ReferenceIdeal.S1024x64 .f32} {x21 : FVec Ideal ReferenceIdeal.S1024 .f32} {x22 : FVec Ideal ReferenceIdeal.S2048x3072 .f32} {x23 : FVec Ideal ReferenceIdeal.S2048 .f32} {x24 : FVec Ideal ReferenceIdeal.S1024x2048 .f32} {x25 : FVec Ideal ReferenceIdeal.S1024 .f32} {x26 : FVec Ideal ReferenceIdeal.S1024 .f32} {x27 : FVec Ideal ReferenceIdeal.S1024 .f32} {y0 : FVec Ideal ReferenceIdeal.S8x2048x1024 .f32} {y1 : FVec Ideal ReferenceIdeal.S8x64 .f32} {y2 : FVec Ideal ReferenceIdeal.S8x2048x32 .f32} {y3 : FVec Ideal ReferenceIdeal.S256x64 .f32} {y4 : FVec Ideal ReferenceIdeal.S256x64 .f32} {y5 : FVec Ideal ReferenceIdeal.S256 .f32} {y6 : FVec Ideal ReferenceIdeal.S128x256 .f32} {y7 : FVec Ideal ReferenceIdeal.S128 .f32} {y8 : FVec Ideal ReferenceIdeal.S256x129 .f32} {y9 : FVec Ideal ReferenceIdeal.S256 .f32} {y10 : FVec Ideal ReferenceIdeal.S128x256 .f32} {y11 : FVec Ideal ReferenceIdeal.S128 .f32} {y12 : FVec Ideal ReferenceIdeal.S128x64 .f32} {y13 : FVec Ideal ReferenceIdeal.S128 .f32} {y14 : FVec Ideal ReferenceIdeal.S128x256 .f32} {y15 : FVec Ideal ReferenceIdeal.S128 .f32} {y16 : FVec Ideal ReferenceIdeal.S1x128 .f32} {y17 : FVec Ideal ReferenceIdeal.S1 .f32} {y18 : FVec Ideal ReferenceIdeal.S1024x32 .f32} {y19 : FVec Ideal ReferenceIdeal.S1024 .f32} {y20 : FVec Ideal ReferenceIdeal.S1024x64 .f32} {y21 : FVec Ideal ReferenceIdeal.S1024 .f32} {y22 : FVec Ideal ReferenceIdeal.S2048x3072 .f32} {y23 : FVec Ideal ReferenceIdeal.S2048 .f32} {y24 : FVec Ideal ReferenceIdeal.S1024x2048 .f32} {y25 : FVec Ideal ReferenceIdeal.S1024 .f32} {y26 : FVec Ideal ReferenceIdeal.S1024 .f32} {y27 : FVec Ideal ReferenceIdeal.S1024 .f32}
    (hargs : x0 = y0 ∧ x1 = y1 ∧ x2 = y2 ∧ x3 = y3 ∧ x4 = y4 ∧ x5 = y5 ∧ x6 = y6 ∧ x7 = y7 ∧ x8 = y8 ∧ x9 = y9 ∧ x10 = y10 ∧ x11 = y11 ∧ x12 = y12 ∧ x13 = y13 ∧ x14 = y14 ∧ x15 = y15 ∧ x16 = y16 ∧ x17 = y17 ∧ x18 = y18 ∧ x19 = y19 ∧ x20 = y20 ∧ x21 = y21 ∧ x22 = y22 ∧ x23 = y23 ∧ x24 = y24 ∧ x25 = y25 ∧ x26 = y26 ∧ x27 = y27) :
    ReferenceIdeal.Read.val_main_v139 (F := Ideal) x0 x1 x2 x3 x4 x5 x6 x7 x8 x9 x10 x11 x12 x13 x14 x15 x16 x17 x18 x19 x20 x21 x22 x23 x24 x25 x26 x27 = ReferenceIdeal.Read.val_main_v139 (F := Ideal) y0 y1 y2 y3 y4 y5 y6 y7 y8 y9 y10 y11 y12 y13 y14 y15 y16 y17 y18 y19 y20 y21 y22 y23 y24 y25 y26 y27 := by
  obtain ⟨e0, e1, e2, e3, e4, e5, e6, e7, e8, e9, e10, e11, e12, e13, e14, e15, e16, e17, e18, e19, e20, e21, e22, e23, e24, e25, e26, e27⟩ := hargs
  subst e0 e1 e2 e3 e4 e5 e6 e7 e8 e9 e10 e11 e12 e13 e14 e15 e16 e17 e18 e19 e20 e21 e22 e23 e24 e25 e26 e27
  rfl

/-- The claim on values. -/
theorem algebraic : Cert.algebraic_KernelIdeal_ReferenceIdeal_pre_finite_inputs := fun m ρ m' ρ' hpre hargs =>
  ⟨fun c => (KernelIdeal.Mlp.dat1 (KernelIdeal.Run.V3 m ρ) c).arrAt 10 KernelIdeal.cfg1.N,
    (θ_run KernelIdeal.defs _ _).mono (fun _ h c => ⟨h.2 c, h.1.1 c⟩) (KernelIdeal.Run.finish (F := Ideal) m ρ),
    (θ_run ReferenceIdeal.defs _ _).mono
      (fun _ h c => ⟨(h c).1.trans ((reference_congr (hargs c)).trans (result_eq m ρ hpre c)), (h c).2⟩)
      (reference_run m' ρ')⟩

end Cert.Proof

end
-- ==== Proof.lean ====
/- Everything the certificate claims: the kernel ends and leaves its arguments alone, on the machine's floats and on the
   extended reals, and so does the reference; the kernel's idealization only names a constant; and kernel and reference end
   with equal results when the inputs of the correction up to its normalisation are real numbers. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All the claims together. -/
theorem claim : Cert.Claim := ⟨Cert.Kernel.Gen.facts, Cert.KernelIdeal.Gen.facts, Cert.ReferenceIdeal.Gen.facts, Cert.Pre_finite_inputs.Gen.facts,
  frame_kernel, frame_kernelIdeal, frame_kernelIdeal_pre, frame_referenceIdeal, frame_referenceIdeal_pre, preserves, algebraic⟩

end Cert.Proof

end
